-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x64x1024 : Shape := ⟨3, ![4, 64, 1024]⟩
abbrev S256x1024 : Shape := ⟨2, ![256, 1024]⟩
abbrev S4 : Shape := ⟨1, ![4]⟩
abbrev S2 : Shape := ⟨1, ![2]⟩
abbrev S1 : Shape := ⟨1, ![1]⟩
abbrev S_ : Shape := ⟨0, ![]⟩
abbrev S1x64x1024 : Shape := ⟨3, ![1, 64, 1024]⟩
abbrev S512x2048 : Shape := ⟨2, ![512, 2048]⟩
abbrev S512x1024 : Shape := ⟨2, ![512, 1024]⟩
abbrev S256x2048 : Shape := ⟨2, ![256, 2048]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S256x1024, .bf16⟩
  | .local _ .vmem, ⟨5, _⟩ => ⟨S1024x2048, .f32⟩
  | .local _ .vmem, ⟨6, _⟩ => ⟨S2048x1024, .f32⟩
  | .local _ .vmem, ⟨7, _⟩ => ⟨S1024x2048, .bf16⟩
  | .local _ .vmem, ⟨8, _⟩ => ⟨S2048x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v8 : BitVec 32 := Scalar.addi v2 c1_i32_1
  let c4_i32_2 : BitVec 32 := 4#32
  let v9 : BitVec 32 := Scalar.remsi v8 c4_i32_2
  let c1_i32_4 : BitVec 32 := 1#32
  let v10 : BitVec 32 := Scalar.muli v9 c1_i32_4
  let v11 : BitVec 32 := Scalar.addi c0_i32_5 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v12 : BitVec 32 := Scalar.addi v2 c2_i32
  let c4_i32_6 : BitVec 32 := 4#32
  let v13 : BitVec 32 := Scalar.remsi v12 c4_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v16 : BitVec 32 := Scalar.addi v2 c3_i32
  let c4_i32_10 : BitVec 32 := 4#32
  let v17 : BitVec 32 := Scalar.remsi v16 c4_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v26 : BitVec 32 := Scalar.addi v2 c2_i32_19
  let c4_i32_20 : BitVec 32 := 4#32
  let v27 : BitVec 32 := Scalar.remsi v26 c4_i32_20
  let c1_i32_25 : BitVec 32 := 1#32
  let v28 : BitVec 32 := Scalar.muli v27 c1_i32_25
  let v29 : BitVec 32 := Scalar.addi c0_i32_26 v28
  v29.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v38 : BitVec 32 := Scalar.addi v2 c1_i32_31
  let c4_i32_32 : BitVec 32 := 4#32
  let v39 : BitVec 32 := Scalar.remsi v38 c4_i32_32
  let c1_i32_37 : BitVec 32 := 1#32
  let v40 : BitVec 32 := Scalar.muli v39 c1_i32_37
  let v41 : BitVec 32 := Scalar.addi c0_i32_38 v40
  v41.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v50 : BitVec 32 := Scalar.addi v2 c3_i32_43
  let c4_i32_44 : BitVec 32 := 4#32
  let v51 : BitVec 32 := Scalar.remsi v50 c4_i32_44
  let c1_i32_49 : BitVec 32 := 1#32
  let v52 : BitVec 32 := Scalar.muli v51 c1_i32_49
  let v53 : BitVec 32 := Scalar.addi c0_i32_50 v52
  v53.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_121 : BitVec 32 := 2#32
  let v138 : BitVec 32 := Scalar.addi v2 c2_i32_121
  let c4_i32_122 : BitVec 32 := 4#32
  let v139 : BitVec 32 := Scalar.remsi v138 c4_i32_122
  let c1_i32_126 : BitVec 32 := 1#32
  let v140 : BitVec 32 := Scalar.muli v139 c1_i32_126
  let v141 : BitVec 32 := Scalar.addi c0_i32_127 v140
  v141.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v149 : BitVec 32 := Scalar.addi v2 c1_i32_131
  let c4_i32_132 : BitVec 32 := 4#32
  let v150 : BitVec 32 := Scalar.remsi v149 c4_i32_132
  let c1_i32_136 : BitVec 32 := 1#32
  let v151 : BitVec 32 := Scalar.muli v150 c1_i32_136
  let v152 : BitVec 32 := Scalar.addi c0_i32_137 v151
  v152.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_141 : BitVec 32 := 3#32
  let v160 : BitVec 32 := Scalar.addi v2 c3_i32_141
  let c4_i32_142 : BitVec 32 := 4#32
  let v161 : BitVec 32 := Scalar.remsi v160 c4_i32_142
  let c1_i32_146 : BitVec 32 := 1#32
  let v162 : BitVec 32 := Scalar.muli v161 c1_i32_146
  let v163 : BitVec 32 := Scalar.addi c0_i32_147 v162
  v163.toNat
def k0_dev10 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_217 : BitVec 32 := 2#32
  let v229 : BitVec 32 := Scalar.addi v2 c2_i32_217
  let c4_i32_218 : BitVec 32 := 4#32
  let v230 : BitVec 32 := Scalar.remsi v229 c4_i32_218
  let c1_i32_223 : BitVec 32 := 1#32
  let v231 : BitVec 32 := Scalar.muli v230 c1_i32_223
  let v232 : BitVec 32 := Scalar.addi c0_i32_224 v231
  v232.toNat
def k0_dev11 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_229 : BitVec 32 := 1#32
  let v241 : BitVec 32 := Scalar.addi v2 c1_i32_229
  let c4_i32_230 : BitVec 32 := 4#32
  let v242 : BitVec 32 := Scalar.remsi v241 c4_i32_230
  let c1_i32_235 : BitVec 32 := 1#32
  let v243 : BitVec 32 := Scalar.muli v242 c1_i32_235
  let v244 : BitVec 32 := Scalar.addi c0_i32_236 v243
  v244.toNat
def k0_dev12 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_241 : BitVec 32 := 3#32
  let v253 : BitVec 32 := Scalar.addi v2 c3_i32_241
  let c4_i32_242 : BitVec 32 := 4#32
  let v254 : BitVec 32 := Scalar.remsi v253 c4_i32_242
  let c1_i32_247 : BitVec 32 := 1#32
  let v255 : BitVec 32 := Scalar.muli v254 c1_i32_247
  let v256 : BitVec 32 := Scalar.addi c0_i32_248 v255
  v256.toNat
def k0_dev13 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_347 : BitVec 32 := 2#32
  let v356 : BitVec 32 := Scalar.addi v2 c2_i32_347
  let c4_i32_348 : BitVec 32 := 4#32
  let v357 : BitVec 32 := Scalar.remsi v356 c4_i32_348
  let c1_i32_352 : BitVec 32 := 1#32
  let v358 : BitVec 32 := Scalar.muli v357 c1_i32_352
  let v359 : BitVec 32 := Scalar.addi c0_i32_353 v358
  v359.toNat
def k0_dev14 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_358 : BitVec 32 := 1#32
  let v367 : BitVec 32 := Scalar.addi v2 c1_i32_358
  let c4_i32_359 : BitVec 32 := 4#32
  let v368 : BitVec 32 := Scalar.remsi v367 c4_i32_359
  let c1_i32_363 : BitVec 32 := 1#32
  let v369 : BitVec 32 := Scalar.muli v368 c1_i32_363
  let v370 : BitVec 32 := Scalar.addi c0_i32_364 v369
  v370.toNat
def k0_dev15 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_369 : BitVec 32 := 3#32
  let v378 : BitVec 32 := Scalar.addi v2 c3_i32_369
  let c4_i32_370 : BitVec 32 := 4#32
  let v379 : BitVec 32 := Scalar.remsi v378 c4_i32_370
  let c1_i32_374 : BitVec 32 := 1#32
  let v380 : BitVec 32 := Scalar.muli v379 c1_i32_374
  let v381 : BitVec 32 := Scalar.addi c0_i32_375 v380
  v381.toNat
def k0_dev16 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_449 : BitVec 32 := 2#32
  let v447 : BitVec 32 := Scalar.addi v2 c2_i32_449
  let c4_i32_450 : BitVec 32 := 4#32
  let v448 : BitVec 32 := Scalar.remsi v447 c4_i32_450
  let c1_i32_455 : BitVec 32 := 1#32
  let v449 : BitVec 32 := Scalar.muli v448 c1_i32_455
  let v450 : BitVec 32 := Scalar.addi c0_i32_456 v449
  v450.toNat
def k0_dev17 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_461 : BitVec 32 := 1#32
  let v459 : BitVec 32 := Scalar.addi v2 c1_i32_461
  let c4_i32_462 : BitVec 32 := 4#32
  let v460 : BitVec 32 := Scalar.remsi v459 c4_i32_462
  let c1_i32_467 : BitVec 32 := 1#32
  let v461 : BitVec 32 := Scalar.muli v460 c1_i32_467
  let v462 : BitVec 32 := Scalar.addi c0_i32_468 v461
  v462.toNat
def k0_dev18 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_473 : BitVec 32 := 3#32
  let v471 : BitVec 32 := Scalar.addi v2 c3_i32_473
  let c4_i32_474 : BitVec 32 := 4#32
  let v472 : BitVec 32 := Scalar.remsi v471 c4_i32_474
  let c1_i32_479 : BitVec 32 := 1#32
  let v473 : BitVec 32 := Scalar.muli v472 c1_i32_479
  let v474 : BitVec 32 := Scalar.addi c0_i32_480 v473
  v474.toNat
def k0_dev19 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_577 : BitVec 32 := 2#32
  let v570 : BitVec 32 := Scalar.addi v2 c2_i32_577
  let c4_i32_578 : BitVec 32 := 4#32
  let v571 : BitVec 32 := Scalar.remsi v570 c4_i32_578
  let c1_i32_582 : BitVec 32 := 1#32
  let v572 : BitVec 32 := Scalar.muli v571 c1_i32_582
  let v573 : BitVec 32 := Scalar.addi c0_i32_583 v572
  v573.toNat
def k0_dev20 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_588 : BitVec 32 := 1#32
  let v581 : BitVec 32 := Scalar.addi v2 c1_i32_588
  let c4_i32_589 : BitVec 32 := 4#32
  let v582 : BitVec 32 := Scalar.remsi v581 c4_i32_589
  let c1_i32_593 : BitVec 32 := 1#32
  let v583 : BitVec 32 := Scalar.muli v582 c1_i32_593
  let v584 : BitVec 32 := Scalar.addi c0_i32_594 v583
  v584.toNat
def k0_dev21 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_599 : BitVec 32 := 3#32
  let v592 : BitVec 32 := Scalar.addi v2 c3_i32_599
  let c4_i32_600 : BitVec 32 := 4#32
  let v593 : BitVec 32 := Scalar.remsi v592 c4_i32_600
  let c1_i32_604 : BitVec 32 := 1#32
  let v594 : BitVec 32 := Scalar.muli v593 c1_i32_604
  let v595 : BitVec 32 := Scalar.addi c0_i32_605 v594
  v595.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x1024 : Shape := ⟨2, ![256, 1024]⟩
abbrev S1024x8192 : Shape := ⟨2, ![1024, 8192]⟩
abbrev S8192x1024 : Shape := ⟨2, ![8192, 1024]⟩
abbrev S256x8192 : Shape := ⟨2, ![256, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x1024, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x1024, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Protocol.lean ====
/-
# The exchange of the four devices as a protocol

Each of three layers has a gather (every device sends its block of the activation to its three peers) and a scatter
(every device sends each peer the partial product that peer sums). Device `c` counts its peers by the distance: peer `i`
is device `c + i + 1`, and `c` is peer `Fin.rev i` of its peer `i`.

Per device there are thirteen cells: the barrier, and for each peer `i` four channels — 0 the gather's send cell,
1 the gather's receive cell, 2 the scatter's send cell, 3 the scatter's receive cell. A channel has three rounds, one
per layer, of one duty each; the barrier has one round of three duties.

* Barrier of `c`, duty `i`, paid by peer `i`: the slots of peer `i` that `c` writes, in the gather's and the
  scatter's buffer, and that peer `i` is at round 0 of its two receive cells for `c`.
* Gather receive, paid by peer `i` in round `l`: `c`'s slot `i + 1` with peer `i`'s activation of layer `l`; from layer
  1 on, also peer `i`'s slot of the scatter's buffer, which peer `i` has read by then.
* Scatter receive, paid by peer `i` in round `l`: `c`'s slot `i + 1` with the partial product of peer `i` for `c`; up to
  layer 1 also peer `i`'s slot of the gather's buffer for the next layer.
* The send cells give back the sources: a share of the device's own activation, the rows of its partial product.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.Transfers
public import Idealize.ShloMosaic.Lib.Writes

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) (Fin 3)
abbrev UU : Type := UR sig nD τ × (UB × Counters)

local notation "𝕄" => MT nD τ sig ℕ (Elt F) ℕ UU ℕ

/-- The pipeline's copy of the rounds algebra; -/
abbrev EP : Emb (UR sig nD τ) (MT nD τ sig ℕ (Elt F) ℕ UU ℕ) := embL
/-- the exchange's, the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## Peers -/

/-- Peer `i` of device `c`: the device `i + 1` further round. -/
def peer (c : Dev nD) (i : Fin 3) : Dev nD := ⟨(c.val + (i.val + 1)) % 4, Nat.mod_lt _ (by decide)⟩

theorem peer_rev (c : Dev nD) (i : Fin 3) : peer (peer c i) i.rev = c := by revert c i; decide
theorem peer_rev' (c : Dev nD) (i : Fin 3) : peer (peer c i.rev) i = c := by revert c i; decide
theorem peer_ne (c : Dev nD) (i j : Fin 3) (h : i ≠ j) : peer c i ≠ peer c j := by revert c i j; decide

/-- Taking peer `i` permutes the devices. -/
def around (i : Fin 3) : Dev nD ≃ Dev nD := ⟨fun c => peer c i, fun c => peer c i.rev, fun c => peer_rev c i, fun c => peer_rev' c i⟩

/-! ## Buffers -/

abbrev xgM : Memref sig .tc .vmem S4x64x1024 .bf16 := Memref.whole cc0_scratch0
abbrev pgM : Memref sig .tc .vmem S4x64x1024 .bf16 := Memref.whole cc0_scratch1
abbrev pmM : Memref sig .tc .vmem S256x1024 .bf16 := Memref.whole cc0_scratch2
abbrev siM : Memref sig .tc .vmem S1024x2048 .f32 := Memref.whole cc0_scratch3
abbrev soM : Memref sig .tc .vmem S2048x1024 .f32 := Memref.whole cc0_scratch4
abbrev wiM : Memref sig .tc .vmem S1024x2048 .bf16 := Memref.whole cc0_scratch5
abbrev woM : Memref sig .tc .vmem S2048x1024 .bf16 := Memref.whole cc0_scratch6

/-- The rectangle of slot `s` of a buffer of four blocks. -/
abbrev slotR : Fin 4 → Rect S4x64x1024
  | 0 => Rect.unit (s := S4x64x1024) ![0, 0, 0] S1x64x1024.size inb_S4x64x1024_S1x64x1024_0_0_0
  | 1 => Rect.unit (s := S4x64x1024) ![1, 0, 0] S1x64x1024.size inb_S4x64x1024_S1x64x1024_1_0_0
  | 2 => Rect.unit (s := S4x64x1024) ![2, 0, 0] S1x64x1024.size inb_S4x64x1024_S1x64x1024_2_0_0
  | 3 => Rect.unit (s := S4x64x1024) ![3, 0, 0] S1x64x1024.size inb_S4x64x1024_S1x64x1024_3_0_0

/-- Slot `s` of a buffer of four blocks, as a block. -/
abbrev slotOf (A : Memref sig .tc .vmem S4x64x1024 .bf16) : Fin 4 → Memref sig .tc .vmem S64x1024 .bf16
  | 0 => (A.slice (Rect.unit (s := S4x64x1024) ![0, 0, 0] S1x64x1024.size inb_S4x64x1024_S1x64x1024_0_0_0) (fun _ => rfl)).squeeze S64x1024 squeezes_S1x64x1024_S64x1024
  | 1 => (A.slice (Rect.unit (s := S4x64x1024) ![1, 0, 0] S1x64x1024.size inb_S4x64x1024_S1x64x1024_1_0_0) (fun _ => rfl)).squeeze S64x1024 squeezes_S1x64x1024_S64x1024
  | 2 => (A.slice (Rect.unit (s := S4x64x1024) ![2, 0, 0] S1x64x1024.size inb_S4x64x1024_S1x64x1024_2_0_0) (fun _ => rfl)).squeeze S64x1024 squeezes_S1x64x1024_S64x1024
  | 3 => (A.slice (Rect.unit (s := S4x64x1024) ![3, 0, 0] S1x64x1024.size inb_S4x64x1024_S1x64x1024_3_0_0) (fun _ => rfl)).squeeze S64x1024 squeezes_S1x64x1024_S64x1024

/-- Block row `j` of the partial product. -/
abbrev rowsOf : Fin 4 → Memref sig .tc .vmem S64x1024 .bf16
  | 0 => pmM.slice (Rect.unit (s := S256x1024) ![0, 0] S64x1024.size (by decide)) (fun _ => rfl)
  | 1 => pmM.slice (Rect.unit (s := S256x1024) ![64, 0] S64x1024.size inb_S256x1024_S64x1024_64_0) (fun _ => rfl)
  | 2 => pmM.slice (Rect.unit (s := S256x1024) ![128, 0] S64x1024.size inb_S256x1024_S64x1024_128_0) (fun _ => rfl)
  | 3 => pmM.slice (Rect.unit (s := S256x1024) ![192, 0] S64x1024.size inb_S256x1024_S64x1024_192_0) (fun _ => rfl)

/-! ## Cells -/

/-- Semaphore `i + 1` of an array of four. -/
abbrev semOf (A : DmaSems sig S4) : Fin 3 → DmaSem sig
  | 0 => ((A.slice (Rect.unit (s := S4) ![1] S1.size inb_S4_S1_1)).squeeze S_ squeezes_S1_S_).sem
  | 1 => ((A.slice (Rect.unit (s := S4) ![2] S1.size inb_S4_S1_2)).squeeze S_ squeezes_S1_S_).sem
  | 2 => ((A.slice (Rect.unit (s := S4) ![3] S1.size inb_S4_S1_3)).squeeze S_ squeezes_S1_S_).sem

/-- The runtime's barrier semaphore. -/
abbrev barS : Sem sig := (SemArray.scalar (sig.barrier 0 rfl) : Sems sig S_).sem

/-- A device's cells: the barrier, or channel `a` of peer `i`. -/
abbrev CK : Type := Option (Fin 4 × Fin 3)

abbrev chSem (a : Fin 4) (i : Fin 3) : DmaSem sig :=
  match a with
  | 0 => semOf cc0_scratch7 i
  | 1 => semOf cc0_scratch8 i
  | 2 => semOf cc0_scratch9 i
  | 3 => semOf cc0_scratch10 i

abbrev csem : CK → SemLoc sig
  | none => .reg barS
  | some (a, i) => .dma (chSem a i)

abbrev kcell (ck : Dev nD × CK) : GSem nD τ sig := ((ck.1 : Thread nD τ), csem ck.2)
abbrev bar (c : Dev nD) : GSem nD τ sig := kcell (c, none)
abbrev ch (c : Dev nD) (a : Fin 4) (i : Fin 3) : GSem nD τ sig := kcell (c, some (a, i))

/-- The cells of a device, listed. -/
abbrev cks : List CK := none :: ((List.finRange 4).flatMap fun a => (List.finRange 3).map fun i => some (a, i))
/-- Which of a device's cells a semaphore is. -/
def ckOf (s : SemLoc sig) : CK → Prop := fun k => csem k = s
instance (s : SemLoc sig) : DecidablePred (ckOf s) := fun k => inferInstanceAs (Decidable (csem k = s))
def ck? (g : GSem nD τ sig) : Option CK := if g.1.2 = .tc then cks.find? (fun k => decide (ckOf g.2 k)) else none

theorem find_csem : ∀ k : CK, cks.find? (fun k' => decide (ckOf (csem k) k')) = some k := by decide
theorem ck_kcell (c : Dev nD) (k : CK) : ck? (kcell (c, k)) = some k := (if_pos rfl).trans (find_csem k)
theorem csem_injective : Function.Injective csem := fun k k' h =>
  Option.some.inj ((find_csem k).symm.trans (by rw [h]; exact find_csem k'))
theorem kcell_injective : Function.Injective (kcell : Dev nD × CK → GSem nD τ sig) := by
  rintro ⟨c, k⟩ ⟨c', k'⟩ h
  have h1 : c = c' := congrArg (fun g : GSem nD τ sig => g.1.1) h
  exact Prod.ext h1 (csem_injective (congrArg Prod.snd h))

/-- What a block's transfer credits. -/
abbrev N : ℕ := (slotOf xgM 0).view.dmaCredit
theorem N_pos : 0 < N := View.dmaCredit_pos _ (by decide)

/-! ## Contents -/

/-- A block of an activation. -/
abbrev Blk (F : FTy → Type) : Type := S64x1024.Idx → Elt F .bf16

/-- The activations and the partial products of the layers, device by device. -/
structure Vals (F : FTy → Type) where
  /-- Device `c`'s activation entering layer `l`. -/
  X : ℕ → Dev nD → Blk F
  /-- Block row `j` of device `c`'s partial product in layer `l`. -/
  P : ℕ → Dev nD → Fin 4 → Blk F

/-- The share of the own activation that the send to peer `i` takes. -/
abbrev qsh : Fin 3 → PosShare TreeShare
  | 0 => fullShare.left.right
  | 1 => fullShare.left.left
  | 2 => fullShare.right.left
/-- The share kept for reading it meanwhile. -/
abbrev qkeep : PosShare TreeShare := fullShare.right.right

/-- A block held outright at anything. -/
def anyBlk (c : Dev nD) (M : Memref sig .tc .vmem S64x1024 .bf16) : sProp 𝕄 := iprop(∃ X, owns (c : Thread nD τ) M fullShare X)

/-- What lets `c` send to peer `i` in the gather of round `r`: that peer's slot and that its cell is there; -/
def xDoor (c : Dev nD) (i : Fin 3) (r : ℕ) : sProp 𝕄 :=
  iprop(anyBlk (peer c i) (slotOf xgM i.rev.succ) ∗ reached ER (ch (peer c i) 1 i.rev) r)
/-- the same of the scatter. -/
def pDoor (c : Dev nD) (i : Fin 3) (r : ℕ) : sProp 𝕄 :=
  iprop(anyBlk (peer c i) (slotOf pgM i.rev.succ) ∗ reached ER (ch (peer c i) 3 i.rev) r)

/-- What rides on the gather's landing of round `l`. -/
def agRide (c : Dev nD) (i : Fin 3) (l : ℕ) : sProp 𝕄 := if l = 0 then iprop(emp) else pDoor c i l
/-- What rides on the scatter's landing of round `l`. -/
def rsRide (c : Dev nD) (i : Fin 3) (l : ℕ) : sProp 𝕄 := if l < 2 then xDoor c i (l + 1) else iprop(emp)

variable (V : Vals F)

/-- The payload of channel `a` of peer `i` at device `c`, round `l`. -/
def chPay (c : Dev nD) (i : Fin 3) (l : ℕ) : Fin 4 → sProp 𝕄
  | 0 => owns (c : Thread nD τ) (slotOf xgM 0) (qsh i) (V.X l c)
  | 1 => iprop(owns (c : Thread nD τ) (slotOf xgM i.succ) fullShare (V.X l (peer c i)) ∗ agRide c i l)
  | 2 => owns (c : Thread nD τ) (rowsOf i.succ) fullShare (V.P l c i.succ)
  | 3 => iprop(owns (c : Thread nD τ) (slotOf pgM i.succ) fullShare (V.P l (peer c i) i.rev.succ) ∗ rsRide c i l)

/-- The barrier's payload from peer `i`. -/
def barPay (c : Dev nD) (i : Fin 3) : sProp 𝕄 := iprop(xDoor c i 0 ∗ pDoor c i 0)

instance anyBlk_storable (c : Dev nD) (M) : BI.Storable (upEmb : UEmb _ 𝕄) (anyBlk (F := F) c M) := by unfold anyBlk; infer_instance
instance xDoor_storable (c : Dev nD) (i r) : BI.Storable (upEmb : UEmb _ 𝕄) (xDoor (F := F) c i r) := by unfold xDoor; infer_instance
instance pDoor_storable (c : Dev nD) (i r) : BI.Storable (upEmb : UEmb _ 𝕄) (pDoor (F := F) c i r) := by unfold pDoor; infer_instance
instance agRide_storable (c : Dev nD) (i r) : BI.Storable (upEmb : UEmb _ 𝕄) (agRide (F := F) c i r) := by unfold agRide; split <;> infer_instance
instance rsRide_storable (c : Dev nD) (i r) : BI.Storable (upEmb : UEmb _ 𝕄) (rsRide (F := F) c i r) := by unfold rsRide; split <;> infer_instance
instance barPay_storable (c : Dev nD) (i) : BI.Storable (upEmb : UEmb _ 𝕄) (barPay (F := F) c i) := by unfold barPay; infer_instance
instance chPay_storable (c : Dev nD) (i l) : ∀ a, BI.Storable (upEmb : UEmb _ 𝕄) (chPay (F := F) V c i l a)
  | 0 => by unfold chPay; infer_instance
  | 1 => by unfold chPay; infer_instance
  | 2 => by unfold chPay; infer_instance
  | 3 => by unfold chPay; infer_instance

/-! ## The schedule -/

/-- The duties of a cell: the barrier's three of its one round, a channel's one of each of three rounds. -/
def dutiesOf (r : ℕ) : Option CK → Finset (Fin 3)
  | none => ∅
  | some none => if r = 0 then Finset.univ else ∅
  | some (some _) => if r < 3 then {0} else ∅
/-- Their units. -/
def amountOf' : Option CK → ℕ
  | some (some _) => N
  | _ => 1
/-- Their payloads. -/
def payOf (c : Dev nD) (r : ℕ) (d : Fin 3) : Option CK → sProp 𝕄
  | none => iprop(emp)
  | some none => barPay c d
  | some (some (a, i)) => chPay V c i r a

def Rd : Rounds.Schedule (GSem nD τ sig) (Fin 3) 𝕄 where
  duties g r := dutiesOf r (ck? g)
  unitless _ := False
  amount g _ _ := amountOf' (ck? g)
  payload g r d := payOf V g.1.1 r d (ck? g)
  amount_pos g _ _ _ := by
    show 0 < amountOf' (ck? g)
    unfold amountOf'; split
    · exact N_pos
    · exact Nat.one_pos

instance Rd_payload_storable (g : GSem nD τ sig) (r : ℕ) (d : Fin 3) :
    BI.Storable (upEmb : UEmb _ 𝕄) ((Rd (F := F) V).payload g r d) := by
  show BI.Storable upEmb (payOf V g.1.1 r d (ck? g))
  unfold payOf; split <;> infer_instance

section Sched
variable (c : Dev nD) (a : Fin 4) (i : Fin 3)

omit [FloatOps F] in
theorem duties_bar : (Rd (F := F) V).duties (bar c) 0 = Finset.univ := by
  show dutiesOf 0 (ck? (bar c)) = _; rw [ck_kcell]; rfl
omit [FloatOps F] in
theorem duties_ch {l : ℕ} (hl : l < 3) : (Rd (F := F) V).duties (ch c a i) l = {0} := by
  show dutiesOf l (ck? (ch c a i)) = _; rw [ck_kcell]; exact if_pos hl
omit [FloatOps F] in
theorem duties_bar_later : ∀ r, 1 ≤ r → (Rd (F := F) V).duties (bar c) r = ∅ := fun r hr => by
  show dutiesOf r (ck? (bar c)) = _; rw [ck_kcell]; exact if_neg (by omega)
omit [FloatOps F] in
theorem duties_ch_later : ∀ r, 3 ≤ r → (Rd (F := F) V).duties (ch c a i) r = ∅ := fun r hr => by
  show dutiesOf r (ck? (ch c a i)) = _; rw [ck_kcell]; exact if_neg (by omega)
omit [FloatOps F] in
theorem amount_bar (r d) : (Rd (F := F) V).amount (bar c) r d = 1 := by
  show amountOf' (ck? (bar c)) = _; rw [ck_kcell]; rfl
omit [FloatOps F] in
theorem amount_ch (r d) : (Rd (F := F) V).amount (ch c a i) r d = N := by
  show amountOf' (ck? (ch c a i)) = _; rw [ck_kcell]; rfl
omit [FloatOps F] in
theorem expect_bar : (Rd (F := F) V).expect (bar c) 0 = 3 := by
  unfold Schedule.expect Schedule.amountOf
  rw [duties_bar, Finset.sum_congr rfl fun d _ => amount_bar V c 0 d, Finset.sum_const, Finset.card_univ, Fintype.card_fin, smul_eq_mul]
omit [FloatOps F] in
theorem expect_ch {l : ℕ} (hl : l < 3) : (Rd (F := F) V).expect (ch c a i) l = N := by
  unfold Schedule.expect Schedule.amountOf; rw [duties_ch V c a i hl, Finset.sum_singleton, amount_ch]
omit [FloatOps F] in
theorem payload_bar (r d) : (Rd (F := F) V).payload (bar c) r d = barPay c d := by
  show payOf V c r d (ck? (bar c)) = _; rw [ck_kcell]; rfl
omit [FloatOps F] in
theorem payload_ch (r d) : (Rd (F := F) V).payload (ch c a i) r d = chPay V c i r a := by
  show payOf V c r d (ck? (ch c a i)) = _; rw [ck_kcell]; rfl
omit [FloatOps F] in
/-- What a channel's round hands over, none of it taken. -/
theorem rest_ch {l : ℕ} (hl : l < 3) :
    bigSep ((Rd (F := F) V).duties (ch c a i) l \ ∅) (fun d => (Rd (F := F) V).payload (ch c a i) l d) = chPay V c i l a := by
  rw [Finset.sdiff_empty, duties_ch V c a i hl, bigSep_singleton, payload_ch]
omit [FloatOps F] in
theorem rest_bar :
    bigSep ((Rd (F := F) V).duties (bar c) 0 \ ∅) (fun d => (Rd (F := F) V).payload (bar c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl

end Sched

/-! ## What a device owes, and the levels -/

/-- A payment to peer `i`: a barrier unit, or the landing of round `l` in the gather or the scatter. -/
inductive Pay where
  | bar (i : Fin 3)
  | ag (l : ℕ) (i : Fin 3)
  | rs (l : ℕ) (i : Fin 3)
  deriving DecidableEq

/-- The cell paid, and the round. -/
def Pay.cell (c : Dev nD) : Pay → GSem nD τ sig
  | .bar i => Mesh.bar (peer c i)
  | .ag _ i => ch (peer c i) 1 i.rev
  | .rs _ i => ch (peer c i) 3 i.rev
def Pay.rnd : Pay → ℕ
  | .bar _ => 0
  | .ag l _ => l
  | .rs l _ => l
/-- Its units. -/
def Pay.amt : Pay → ℕ
  | .bar _ => 1
  | .ag _ _ => N
  | .rs _ _ => N
/-- The tally of device `c`'s payment. -/
def Pay.tally (c : Dev nD) (p : Pay) : CellTallies nD τ sig ℕ := tallyAt (p.cell c) p.rnd p.amt
/-- Its level. -/
def Pay.lev : Pay → ℕ
  | .bar _ => 1
  | .ag l _ => 2 + 2 * l
  | .rs l _ => 3 + 2 * l

/-- What is owed before a list of payments. -/
def owing (c : Dev nD) : List Pay → CellTallies nD τ sig ℕ
  | [] => 0
  | p :: ps => owing c ps + p.tally c

/-- A layer's payments, in program order: peers 1, 0, 2 of the gather, then of the scatter. -/
abbrev layerPays (l : ℕ) (rest : List Pay) : List Pay :=
  .ag l 1 :: .ag l 0 :: .ag l 2 :: .rs l 1 :: .rs l 0 :: .rs l 2 :: rest
/-- All payments of a device, in program order. -/
abbrev pays : List Pay := .bar 0 :: .bar 1 :: .bar 2 :: layerPays 0 (layerPays 1 (layerPays 2 []))

/-- The indices credit is kept at: the rounds. -/
def L (g : GSem nD τ sig) : Finset ℕ := if g.1.2 = .tc then Finset.range 3 else ∅
/-- The level of waiting on a cell for a round. -/
def lvOf (r : ℕ) : Option CK → ℕ
  | some none => 1
  | some (some (1, _)) => 2 + 2 * r
  | some (some (3, _)) => 3 + 2 * r
  | _ => 0
def lv (g : GSem nD τ sig) (r : ℕ) : ℕ := lvOf r (ck? g)

theorem L_of_ne (g : GSem nD τ sig) (h : g.1.2 ≠ .tc) : L g = ∅ := if_neg h
theorem L_tc (c : Dev nD) (sm : SemLoc sig) : L ((c : Thread nD τ), sm) = Finset.range 3 := if_pos rfl
theorem lv_cell (c : Dev nD) (k : CK) (r : ℕ) : lv (kcell (c, k)) r = lvOf r (some k) := by unfold lv; rw [ck_kcell]
theorem pay_lev (c : Dev nD) (p : Pay) : lv (p.cell c) p.rnd = p.lev := by
  cases p <;> exact lv_cell _ _ _

/-- Something owed is one of the payments. -/
theorem owing_pos {c : Dev nD} {g : GSem nD τ sig} {r : ℕ} : ∀ {ps : List Pay}, 0 < owing c ps g r → ∃ p ∈ ps, g = p.cell c ∧ r = p.rnd
  | [], h => absurd h (Nat.lt_irrefl 0)
  | p :: ps, h => by
    unfold owing at h
    rw [Pi.add_apply, Finsupp.add_apply] at h
    by_cases hp : 0 < owing c ps g r
    · obtain ⟨q, hq, hq'⟩ := owing_pos hp
      exact ⟨q, List.mem_cons_of_mem _ hq, hq'⟩
    · refine ⟨p, List.mem_cons_self .., ?_⟩
      have h' : 0 < p.tally c g r := by omega
      unfold Pay.tally at h'
      rw [tallyAt_apply] at h'
      by_contra hn
      rw [if_neg hn] at h'
      exact Nat.lt_irrefl 0 h'

omit [FloatOps F] in
/-- Waiting for a round below the level of everything still owed. -/
theorem mayWait (c : Dev nD) (sm : SemLoc sig) (r : ℕ) (hr : r < 3) (ps : List Pay)
    (h : ∀ p ∈ ps, lv ((c : Thread nD τ), sm) r < p.lev ∧ p.rnd < 3) :
    (levAts L lv : sProp 𝕄) ⊢ MayWait (c : Thread nD τ) sm r (owing c ps) :=
  MayOwe.of_cut (L := L) (lev := lv) (lv ((c : Thread nD τ), sm) r)
    (fun p hp => by rw [Finset.mem_singleton.mp hp, L_tc]; exact Finset.mem_range.mpr hr)
    (fun g u hg => by
      obtain ⟨p, hp, rfl, rfl⟩ := owing_pos hg
      have : L (p.cell c) = Finset.range 3 := by cases p <;> exact L_tc _ _
      rw [this]; exact Finset.mem_range.mpr (h p hp).2)
    (fun p hp => by rw [Finset.mem_singleton.mp hp])
    (fun g u hg => by
      obtain ⟨p, hp, rfl, rfl⟩ := owing_pos hg
      rw [pay_lev]; exact (h p hp).1)

end Cert.KernelIdeal.Mesh

end
-- ==== Proof.Steps.lean ====
/-
# One rule per step of the exchange

What each send, each wait, each barrier signal does to a device's holdings, for every peer and every layer at once.
-/
module

public import proofs.«01_k».proof.Proof.Protocol

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Vals F) (K : Dev nD × CK → ℕ)

/-- What every device shares: each cell's invariant, that each cell has reached round 0, the levels. -/
def env : sProp 𝕄 :=
  iprop((bigSep Finset.univ fun ck : Dev nD × CK => cellInv ER (Rd V) (K ck) (kcell ck))
    ∗ (bigSep Finset.univ fun ck : Dev nD × CK => reached ER (kcell ck) 0) ∗ levAts L lv)

instance env_persistent : BI.Persistent (env V K) := by unfold env; infer_instance

omit [FloatOps F] in
theorem env_inv (c : Dev nD) (k : CK) : env V K ⊢ cellInv ER (Rd V) (K (c, k)) (kcell (c, k)) :=
  sep_elim_left.trans (bigSep_elim (Φ := fun ck : Dev nD × CK => (cellInv ER (Rd V) (K ck) (kcell ck) : sProp 𝕄)) (Finset.mem_univ (c, k)))
omit [FloatOps F] in
theorem env_reached (c : Dev nD) (k : CK) : env V K ⊢ reached ER (kcell (c, k)) 0 :=
  sep_elim_right.trans (sep_elim_left.trans (bigSep_elim (Φ := fun ck : Dev nD × CK => (reached ER (kcell ck) 0 : sProp 𝕄)) (Finset.mem_univ (c, k))))
omit [FloatOps F] in
theorem env_lev : env V K ⊢ levAts L lv := by
  unfold env; iintro ⟨-, -, H⟩; iexact H

/-- Device `c` owes the payments listed. -/
def ow (c : Dev nD) (ps : List Pay) : sProp 𝕄 := iprop(∃ W, owes (c : Thread nD τ) (owing c ps) W)

/-- The weakest precondition of device `c`'s kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type} {k : PUnit → Prog (TpuEff nD τ sig (Elt F) Λ₀ .tc) α}

/-! ## The barrier -/

omit [FloatOps F] in
theorem barPay_at (i : Fin 3) : barPay (F := F) (peer c i) i.rev
    = iprop((anyBlk c (slotOf xgM i.succ) ∗ reached ER (ch c 1 i) 0) ∗ (anyBlk c (slotOf pgM i.succ) ∗ reached ER (ch c 3 i) 0)) := by
  unfold barPay xDoor pDoor; rw [peer_rev, Fin.rev_rev]

/-- The signal to peer `i`: it may write this device's two slots for it. -/
theorem step_signal {Q : α → sProp 𝕄} (n : Dev nD) (i : Fin 3) (hn : n = peer c i) (ps : List Pay) (w : ℤ) (hw : w = ((1 : ℕ) : ℤ)) :
    iprop(env V K ∗ ow c (.bar i :: ps) ∗ dutyTok ER (bar (peer c i)) 0 i.rev
        ∗ anyBlk c (slotOf xgM i.succ) ∗ anyBlk c (slotOf pgM i.succ))
      ⊢ iprop((ow c ps -∗ WP c (k ⟨⟩) Q)
          -∗ WP c (.op (.semSignal (n : Thread nD τ) barS w) k) Q) := by
  subst hn; subst hw
  unfold ow
  iintro ⟨#He, ⟨%W, HO⟩, Htok, Hx, Hp⟩ Hk
  iapply (Rounds.wp_signal 𝒱₀ ER (Rd V) (c : Thread nD τ) none (dst := (peer c i : Thread nD τ)) (κ := K (peer c i, none))
      (d := i.rev) (by rw [duties_bar]; exact Finset.mem_univ _) (amount_bar V (peer c i) 0 i.rev) 0 (owing c ps) rfl) $$ [HO Htok Hx Hp]
  · isplitr; · iapply (env_inv V K (peer c i) none); iexact He
    isplitl [HO]; · iexact HO
    isplitl [Htok]; · iexact Htok
    isplitl [Hx Hp]
    · rw [payload_bar, barPay_at]
      isplitl [Hx]
      · isplitl [Hx]; · iexact Hx
        iapply (env_reached V K c (some (1, i))); iexact He
      · isplitl [Hp]; · iexact Hp
        iapply (env_reached V K c (some (3, i))); iexact He
    iapply (env_reached V K (peer c i) none); iexact He
  iintro HO
  iapply Hk
  iexists W; iexact HO

/-- The wait for the three peers: their slots may be written. -/
theorem step_barrier {Q : α → sProp 𝕄} (ps : List Pay) (hps : ∀ p ∈ ps, 1 < p.lev ∧ p.rnd < 3) (w : ℤ) (hw : w = ((3 : ℕ) : ℤ)) :
    iprop(env V K ∗ cred (tallyAt (bar c) 0 3) ∗ ow c ps ∗ atPos ER (bar c) 0 ∅ 0)
      ⊢ iprop(((ow c ps ∗ atPos ER (bar c) 1 ∅ 0 ∗ barPay c 0 ∗ barPay c 1 ∗ barPay c 2) -∗ WP c (k ⟨⟩) Q)
          -∗ WP c (.op (.semWait barS w) k) Q) := by
  subst hw
  unfold ow
  iintro ⟨#He, Hc, ⟨%W, HO⟩, Hat⟩ Hk
  iapply (Rounds.wp_wait_rest_token 𝒱₀ ER (Rd V) (c : Thread nD τ) none (κ := K (c, none))
      (wpE_semWait_eq 𝒱₀ (c : Thread nD τ) none Set.univ) (Set.mem_univ _) 0 (O := owing c ps) (W := W) (R := 0) (m := 0) (T := ∅)
      (by rw [expect_bar])) $$ [Hc HO Hat]
  · isplitr; · iapply (env_inv V K c none); iexact He
    isplitl [Hc]; · iexact Hc
    isplitl [HO]; · iexact HO
    isplitr
    · iapply (mayWait c (.reg barS) 0 (by decide) ps (fun p hp => by rw [lv_cell c none]; exact hps p hp))
      iapply (env_lev V K); iexact He
    iexact Hat
  iintro ⟨HO, Hat, -, Hpay⟩
  ihave Hp := (Entails.of_eq (rest_bar V c)) $$ Hpay
  iapply Hk
  isplitl [HO]; · iexists _; iexact HO
  isplitl [Hat]; · iexact Hat
  iexact Hp

/-! ## Waits on a channel -/

/-- A wait for round `l` of channel `a` of peer `i`. -/
theorem step_wait {Q : α → sProp 𝕄} (a : Fin 4) (i : Fin 3) (r l : ℕ) (hr : r < 3) (hl : l < 3) (ps : List Pay)
    (hps : ∀ p ∈ ps, lvOf r (some (some (a, i))) < p.lev ∧ p.rnd < 3)
    {s s' : Shape} {e e' : EltTy} {sp sp' : Space}
    {srcw : Memref sig .tc sp' s' e'} {dstw : Memref sig .tc sp s e} {hsrc : srcw.view.WordExact} {hdst : dstw.view.WordExact}
    (hN : dstw.view.dmaCredit = N) :
    iprop(env V K ∗ cred (tallyAt (ch c a i) r N) ∗ ow c ps ∗ atPos ER (ch c a i) l ∅ 0)
      ⊢ iprop(((ow c ps ∗ atPos ER (ch c a i) (l + 1) ∅ 0 ∗ reached ER (ch c a i) (l + 1) ∗ chPay V c i l a) -∗ WP c (k ⟨⟩) Q)
          -∗ WP c (.op (.waitDma2 (chSem a i) srcw dstw hsrc hdst) k) Q) := by
  unfold ow
  iintro ⟨#He, Hc, ⟨%W, HO⟩, Hat⟩ Hk
  iapply (Rounds.wp_wait_rest_token 𝒱₀ ER (Rd V) (c : Thread nD τ) none (κ := K (c, some (a, i))) (k' := N)
      (fun K' => (wpE_waitDma2_eq 𝒱₀ (c : Thread nD τ) none Set.univ K').trans (by rw [hN])) (Set.mem_univ _) r (O := owing c ps) (W := W) (R := l) (m := 0) (T := ∅)
      (by rw [expect_ch V c a i hl, Nat.zero_add])) $$ [Hc HO Hat]
  · isplitr; · iapply (env_inv V K c (some (a, i))); iexact He
    isplitl [Hc]; · iexact Hc
    isplitl [HO]; · iexact HO
    isplitr
    · iapply (mayWait c (.dma (chSem a i)) r hr ps (fun p hp => by rw [lv_cell c (some (a, i))]; exact hps p hp))
      iapply (env_lev V K); iexact He
    iexact Hat
  iintro ⟨HO, Hat, Hr, Hpay⟩
  ihave Hp := (Entails.of_eq (rest_ch V c a i hl)) $$ Hpay
  iapply Hk
  isplitl [HO]; · iexists _; iexact HO
  isplitl [Hat]; · iexact Hat
  isplitl [Hr]; · iexact Hr
  iexact Hp

/-! ## Sends -/

omit [FloatOps F] in
/-- A block rewritten whole holds what was written. -/
theorem owns_written (d : Dev nD) (M : Memref sig .tc .vmem S64x1024 .bf16) (fd : Buf (Elt F) (M.view.loc (d : Thread nD τ))) (X : Blk F) :
    (M.view.loc (d : Thread nD τ) ↦[M.view.set]{fullShare} M.view.write (Elt F) fd X Finset.univ : sProp 𝕄) ⊢ owns (d : Thread nD τ) M fullShare X := by
  have h := owns_intro (Ix := ℕ) (Name := ℕ) (U := UU) (Lvl := ℕ) (d : Thread nD τ) M fullShare (M.view.write (Elt F) fd X Finset.univ)
  rwa [View.read_write_univ] at h

/-- A send of block `X` from `src` to `dst` on peer `i`, its landing paying round `l` of channel `b` there and its
    departure round `l` of channel `a` here. -/
theorem step_send {Q : α → sProp 𝕄} (i : Fin 3) (l : ℕ) (hl : l < 3) (a b : Fin 4) (ps : List Pay) (p : Pay)
    (hp : p.tally c = tallyAt (ch (peer c i) b i.rev) l N) (src dst : Memref sig .tc .vmem S64x1024 .bf16) (hN : dst.view.dmaCredit = N)
    (q : PosShare TreeShare) (X : Blk F) (ride : sProp 𝕄)
    (hpay₁ : (owns (c : Thread nD τ) src q X : sProp 𝕄) ⊢ chPay V c i l a)
    (hpay₂ : iprop(owns (peer c i : Thread nD τ) dst fullShare X ∗ ride) ⊢ chPay V (peer c i) i.rev l b)
    {hsc : dst.view.ref.isScScratch = false} {hsrc : src.view.WordExact} {hdst : dst.view.WordExact}
    {hsem : DmaTarget.Typed .vmem (.dma (chSem b i.rev)) (.remote (peer c i : Thread nD τ) dst (.dma (chSem a i)) hsc)} :
    iprop(env V K ∗ owns (c : Thread nD τ) src q X ∗ anyBlk (peer c i) dst ∗ ride ∗ ow c (p :: ps)
        ∗ dutyTok ER (ch c a i) l 0 ∗ reached ER (ch c a i) l
        ∗ dutyTok ER (ch (peer c i) b i.rev) l 0 ∗ reached ER (ch (peer c i) b i.rev) l)
      ⊢ iprop(((cred (tallyAt (ch c a i) 0 N) ∗ ow c ps) -∗ WP c (k ⟨⟩) Q)
          -∗ WP c (.op (.enqueueDma src (.remote (peer c i : Thread nD τ) dst (.dma (chSem a i)) hsc) (.dma (chSem b i.rev)) hsrc hdst hsem) k) Q) := by
  unfold ow anyBlk
  iintro ⟨#He, Hs, ⟨%Y, Hd⟩, Hride, ⟨%W, HO⟩, Ht₁, Hr₁, Ht₂, Hr₂⟩ Hk
  unfold owns
  icases Hs with ⟨%fs, %hfs, Hs⟩
  icases Hd with ⟨%fd, -, Hd⟩
  subst hfs
  iapply (Rounds.wp_send_pointsTo_with 𝒱₀ ER (Rd V) (c : Thread nD τ) none (κ₁ := K (c, some (a, i))) (κ₂ := K (peer c i, some (b, i.rev)))
      (r₁ := l) (r₂ := l) (d₁ := 0) (d₂ := 0) (fs := fs) (fd := fd) (F := ride)
      (by rw [duties_ch V c a i hl]; exact Finset.mem_singleton_self _) (by rw [duties_ch V (peer c i) b i.rev hl]; exact Finset.mem_singleton_self _)
      l 0 N (show dst.view.amount (.dma (chSem b i.rev)) = N from hN) (amount_ch V c a i l 0) (amount_ch V (peer c i) b i.rev l 0) (owing c ps)
      (show owing c ps + p.tally c = owing c ps + tallyAt (ch (peer c i) b i.rev) l N by rw [hp]) (W := W)
      (by rw [payload_ch]; exact (owns_intro (c : Thread nD τ) src q fs).trans hpay₁)
      (by rw [payload_ch]; exact (sep_mono_left (owns_written (peer c i) dst fd _)).trans hpay₂)) $$ [Hs Hd Hride HO Ht₁ Hr₁ Ht₂ Hr₂]
  · isplitr; · iapply (env_inv V K c (some (a, i))); iexact He
    isplitr; · iapply (env_inv V K (peer c i) (some (b, i.rev))); iexact He
    isplitl [Hs]; · iexact Hs
    isplitl [Hd Hride]
    · isplitl [Hd]; · iexact Hd
      iexact Hride
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists W; iexact HO

end Cert.KernelIdeal.Mesh

end
-- ==== Proof.Memory.lean ====
/-
# Buffers in pieces

Loads and stores through part of a buffer, the four buffers cut in blocks of rows, the weights' local transfers.
-/
module

public import proofs.«01_k».proof.Proof.Steps
public import Idealize.ShloMosaic.Lib.Pipeline.Value

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (c : Dev nD) {α : Type}

/-! ## Loads and stores through part of a memref -/

section Access
variable {cs : CoreSpace} {s : Shape} {e : EltTy}

/-- A load through a rectangle of a memref owned at `X` reads `X` there. -/
theorem load_sub {Q : α → sProp 𝕄} {m : Memref sig .tc cs s e} {r : Rect s} {q : PosShare TreeShare} (X : s.Idx → Elt F e) {hl : m.view.LoadsAt r}
    {k : (r.shape.Idx → Elt F e) → Prog (TpuEff nD τ sig (Elt F) Λ₀ .tc) α} :
    (owns (c : Thread nD τ) m q X : sProp 𝕄)
      ⊢ iprop((owns (c : Thread nD τ) m q X -∗ WP c (k (fun j => X (r.emb j))) Q) -∗ WP c (.op (.load m r hl) k) Q) := by
  unfold owns
  iintro ⟨%f, %hf, H⟩ Hk
  subst hf
  iapply (wp_load_rect 𝒱₀ (c : Thread nD τ) none Set.univ (m := m) (r := r) (f := f) (View.set_slice_subset m.view r)) $$ H
  iintro H
  iapply Hk
  iexists f; isplitr; · ipureintro; rfl
  iexact H

/-- A load through the rectangle of a slice owned at `X` reads `X`. -/
theorem load_slice {Q : α → sProp 𝕄} {m : Memref sig .tc cs s e} {r : Rect s} (hr : ∀ a, r.stride a = 1) {q : PosShare TreeShare} (X : r.shape.Idx → Elt F e)
    {hl : m.view.LoadsAt r} {k : (r.shape.Idx → Elt F e) → Prog (TpuEff nD τ sig (Elt F) Λ₀ .tc) α} :
    (owns (c : Thread nD τ) (m.slice r hr) q X : sProp 𝕄)
      ⊢ iprop((owns (c : Thread nD τ) (m.slice r hr) q X -∗ WP c (k X) Q) -∗ WP c (.op (.load m r hl) k) Q) := by
  unfold owns
  iintro ⟨%f, %hf, H⟩ Hk
  subst hf
  iapply (wp_load_rect 𝒱₀ (c : Thread nD τ) none Set.univ (m := m) (r := r) (f := f) (Finset.Subset.refl _)) $$ H
  iintro H
  iapply Hk
  iexists f; isplitr; · ipureintro; rfl
  iexact H

/-- A store through the rectangle of a slice leaves what was stored. -/
theorem store_slice {Q : α → sProp 𝕄} {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} :
    (iprop(∃ X, owns (c : Thread nD τ) (m.slice r hr) fullShare X) : sProp 𝕄)
      ⊢ iprop((owns (c : Thread nD τ) (m.slice r hr) fullShare w -∗ WP c (k ⟨⟩) Q) -∗ WP c (.op (.store m r w Finset.univ hx hm) k) Q) := by
  unfold owns
  iintro ⟨%X, %f, -, H⟩ Hk
  iapply (wp_store 𝒱₀ (c : Thread nD τ) none Set.univ (m := m) (r := r) (f := f) (w := w) (Mk := Finset.univ) (hx := hx) (hm := hm)
    (S := (m.slice r hr).view.set) (Finset.Subset.refl _)) $$ H
  iintro H
  iapply Hk
  iexists _; isplitr; · ipureintro; exact View.read_write_univ (v := m.view.slice r) f w
  iexact H

/-- A squeezed slice owned at `Y` is the slice owned at `Y` reshaped. -/
theorem owns_squeeze (t : Thread nD τ) {sp : Space} (m : Memref sig t.2.kind sp s e) {s' : Shape} (hq : s.Squeezes s') (hc : s'.ShapeCasts s) (q : PosShare TreeShare)
    (Y : s'.Idx → Elt F e) :
    (owns t (m.squeeze s' hq) q Y : sProp 𝕄) ⊣⊢ owns t m q (shapeCast s Y hc) := by
  have hset : (m.squeeze s' hq).view.set = m.view.set := View.set_reshape _ _
  have hrd : ∀ f : m.view.ty.Contents (Elt F), (m.squeeze s' hq).view.read (Elt F) f = shapeCast s' (m.view.read (Elt F) f) hc.symm := fun f => rfl
  constructor
  · unfold owns
    iintro ⟨%f, %hf, H⟩
    iexists f
    isplitr
    · ipureintro
      have h2 : shapeCast s' (m.view.read (Elt F) f) hc.symm = Y := (hrd f).symm.trans hf
      rw [← h2, shapeCast_shapeCast]
    · rw [← hset]; iexact H
  · unfold owns
    iintro ⟨%f, %hf, H⟩
    iexists f
    isplitr
    · ipureintro
      exact (hrd f).trans (by rw [hf, shapeCast_shapeCast])
    · rw [hset]; iexact H

end Access

/-! ## Blocks of rows -/

section Rows

/-- The blocks of the scratch weights, and of the partial product. -/
abbrev wiR : Fin 2 → Rect S1024x2048
  | 0 => Rect.unit (s := S1024x2048) ![0, 0] S512x2048.size inb_S1024x2048_S512x2048_0_0
  | 1 => Rect.unit (s := S1024x2048) ![512, 0] S512x2048.size inb_S1024x2048_S512x2048_512_0
abbrev woR : Fin 4 → Rect S2048x1024
  | 0 => Rect.unit (s := S2048x1024) ![0, 0] S512x1024.size inb_S2048x1024_S512x1024_0_0
  | 1 => Rect.unit (s := S2048x1024) ![512, 0] S512x1024.size inb_S2048x1024_S512x1024_512_0
  | 2 => Rect.unit (s := S2048x1024) ![1024, 0] S512x1024.size inb_S2048x1024_S512x1024_1024_0
  | 3 => Rect.unit (s := S2048x1024) ![1536, 0] S512x1024.size inb_S2048x1024_S512x1024_1536_0
abbrev pmR : Fin 4 → Rect S256x1024
  | 0 => Rect.unit (s := S256x1024) ![0, 0] S64x1024.size (by decide)
  | 1 => Rect.unit (s := S256x1024) ![64, 0] S64x1024.size inb_S256x1024_S64x1024_64_0
  | 2 => Rect.unit (s := S256x1024) ![128, 0] S64x1024.size inb_S256x1024_S64x1024_128_0
  | 3 => Rect.unit (s := S256x1024) ![192, 0] S64x1024.size inb_S256x1024_S64x1024_192_0

/-- Blocks of `n` rows at the multiples of `n` are disjoint, -/
theorem rows_disjoint {s : Shape} {k : ℕ} (r : Fin k → Rect s) (a : Fin s.rank) (n : ℕ) (hoff : ∀ t, (r t).off a = t.val * n) (hsz : ∀ t, (r t).size a = n)
    (hst : ∀ t, (r t).stride a = 1) : ∀ t t', t ≠ t' → Disjoint (r t).set (r t').set := fun t t' h =>
  Rect.disjoint_of_axis _ _ a fun j₁ h₁ j₂ h₂ he => h <| Fin.ext (by
    rw [hsz] at h₁ h₂
    rw [hoff, hoff, hst, hst] at he
    rcases Nat.lt_trichotomy t.val t'.val with hl | hl | hl
    · have := Nat.mul_le_mul_right n (Nat.succ_le_of_lt hl); rw [Nat.succ_mul] at this; omega
    · exact hl
    · have := Nat.mul_le_mul_right n (Nat.succ_le_of_lt hl); rw [Nat.succ_mul] at this; omega)

/-- and cover what they fill. -/
theorem rows_cover {s : Shape} {k : ℕ} (r : Fin k → Rect s) (a : Fin s.rank) (n : ℕ) (hn : 0 < n) (hk : s.size a = k * n)
    (hr : ∀ t i, i ∈ (r t).set ↔ ∀ b, (r t).off b ≤ (i b).val ∧ (i b).val < (r t).off b + (r t).size b)
    (hoff : ∀ t, (r t).off a = t.val * n) (hsz : ∀ t, (r t).size a = n)
    (hoth : ∀ t b, b ≠ a → (r t).off b = 0 ∧ (r t).size b = s.size b) :
    (Finset.univ : Finset (Fin k)).biUnion (fun t => (r t).set) = Finset.univ := by
  ext i
  simp only [Finset.mem_biUnion, Finset.mem_univ, true_and, iff_true]
  have hi : (i a).val < k * n := hk ▸ (i a).isLt
  refine ⟨⟨(i a).val / n, (Nat.div_lt_iff_lt_mul hn).mpr hi⟩, (hr _ i).mpr fun b => ?_⟩
  by_cases hb : b = a
  · subst hb
    rw [hoff, hsz]
    exact ⟨Nat.div_mul_le_self _ _, Nat.lt_div_mul_add hn⟩
  · rw [(hoth _ b hb).1, (hoth _ b hb).2]
    exact ⟨Nat.zero_le _, by rw [Nat.zero_add]; exact (i b).isLt⟩

theorem wiR_disjoint : ∀ t t', t ≠ t' → Disjoint (wiR t).set (wiR t').set :=
  rows_disjoint wiR 0 512 (by intro t; fin_cases t <;> rfl) (by intro t; fin_cases t <;> rfl) (by intro t; fin_cases t <;> rfl)
theorem woR_disjoint : ∀ t t', t ≠ t' → Disjoint (woR t).set (woR t').set :=
  rows_disjoint woR 0 512 (by intro t; fin_cases t <;> rfl) (by intro t; fin_cases t <;> rfl) (by intro t; fin_cases t <;> rfl)
theorem pmR_disjoint : ∀ t t', t ≠ t' → Disjoint (pmR t).set (pmR t').set :=
  rows_disjoint pmR 0 64 (by intro t; fin_cases t <;> rfl) (by intro t; fin_cases t <;> rfl) (by intro t; fin_cases t <;> rfl)
theorem slotR_disjoint : ∀ t t', t ≠ t' → Disjoint (slotR t).set (slotR t').set :=
  rows_disjoint slotR 0 1 (by intro t; fin_cases t <;> rfl) (by intro t; fin_cases t <;> rfl) (by intro t; fin_cases t <;> rfl)
theorem wiR_cover : (Finset.univ : Finset (Fin 2)).biUnion (fun t => (wiR t).set) = Finset.univ :=
  rows_cover wiR 0 512 (by decide) rfl (by intro t i; fin_cases t <;> exact Rect.mem_set_unit) (by intro t; fin_cases t <;> rfl) (by intro t; fin_cases t <;> rfl)
    (by intro t b hb; fin_cases b; · exact absurd rfl hb
        fin_cases t <;> exact ⟨rfl, rfl⟩)
theorem woR_cover : (Finset.univ : Finset (Fin 4)).biUnion (fun t => (woR t).set) = Finset.univ :=
  rows_cover woR 0 512 (by decide) rfl (by intro t i; fin_cases t <;> exact Rect.mem_set_unit) (by intro t; fin_cases t <;> rfl) (by intro t; fin_cases t <;> rfl)
    (by intro t b hb; fin_cases b; · exact absurd rfl hb
        fin_cases t <;> exact ⟨rfl, rfl⟩)
theorem pmR_cover : (Finset.univ : Finset (Fin 4)).biUnion (fun t => (pmR t).set) = Finset.univ :=
  rows_cover pmR 0 64 (by decide) rfl (by intro t i; fin_cases t <;> exact Rect.mem_set_unit) (by intro t; fin_cases t <;> rfl) (by intro t; fin_cases t <;> rfl)
    (by intro t b hb; fin_cases b; · exact absurd rfl hb
        fin_cases t <;> exact ⟨rfl, rfl⟩)
theorem slotR_cover : (Finset.univ : Finset (Fin 4)).biUnion (fun t => (slotR t).set) = Finset.univ :=
  rows_cover slotR 0 1 (by decide) rfl (by intro t i; fin_cases t <;> exact Rect.mem_set_unit) (by intro t; fin_cases t <;> rfl) (by intro t; fin_cases t <;> rfl)
    (by intro t b hb; fin_cases b; · exact absurd rfl hb
        · fin_cases t <;> exact ⟨rfl, rfl⟩
        fin_cases t <;> exact ⟨rfl, rfl⟩)

theorem wiR_stride : ∀ t a, (wiR t).stride a = 1 := by intro t a; fin_cases t <;> rfl
theorem woR_stride : ∀ t a, (woR t).stride a = 1 := by intro t a; fin_cases t <;> rfl
theorem pmR_stride : ∀ t a, (pmR t).stride a = 1 := by intro t a; fin_cases t <;> rfl
theorem slotR_stride : ∀ t a, (slotR t).stride a = 1 := by intro t a; fin_cases t <;> rfl

theorem sep4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
theorem sep2 (Φ : Fin 2 → sProp 𝕄) : bigSep Finset.univ Φ = iprop(Φ 0 ∗ Φ 1) := by
  rw [bigSep_univ_eq_bigSepL [0, 1] (by decide) (by decide), bigSepL_cons_cons, bigSepL_singleton]; rfl

end Rows

end Cert.KernelIdeal.Mesh

end
-- ==== Proof.Exchange.lean ====
/-
# The phases of a layer's exchange

Three sends, three arrivals, three departures: each as one rule, for every layer.
-/
module

public import proofs.«01_k».proof.Proof.Memory

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A program of a device's kernel. -/
abbrev PROG (F : FTy → Type) [FloatOps F] (α : Type) : Type 1 := Prog (TpuEff nD τ sig (Elt F) Λ₀ .tc) α

variable (V : Vals F) (K : Dev nD × CK → ℕ) (c : Dev nD) {α : Type}

/-- For each of the three peers. -/
abbrev all3 (Φ : Fin 3 → sProp 𝕄) : sProp 𝕄 := iprop(Φ 0 ∗ Φ 1 ∗ Φ 2)

/-- What a send to peer `i` on channels `a` here and `b` there takes in round `l`. -/
def sendTok (a b : Fin 4) (l : ℕ) (i : Fin 3) : sProp 𝕄 :=
  iprop(dutyTok ER (ch c a i) l 0 ∗ reached ER (ch c a i) l ∗ dutyTok ER (ch (peer c i) b i.rev) l 0)

/-- The wait position of channel `a` of peer `i`. -/
abbrev atCh (a : Fin 4) (l : ℕ) (i : Fin 3) : sProp 𝕄 := atPos ER (ch c a i) l ∅ 0

omit [FloatOps F] in
/-- What a landing of the gather hands peer `i`. -/
theorem chPay_gather (i : Fin 3) (l : ℕ) :
    chPay V (peer c i) i.rev l 1 = iprop(owns (peer c i : Thread nD τ) (slotOf xgM i.rev.succ) fullShare (V.X l c) ∗ agRide (peer c i) i.rev l) := by
  unfold chPay; rw [peer_rev]
omit [FloatOps F] in
/-- What a landing of the scatter hands peer `i`. -/
theorem chPay_scatter (i : Fin 3) (l : ℕ) :
    chPay V (peer c i) i.rev l 3
      = iprop(owns (peer c i : Thread nD τ) (slotOf pgM i.rev.succ) fullShare (V.P l c i.succ) ∗ rsRide (peer c i) i.rev l) := by
  unfold chPay; rw [peer_rev, Fin.rev_rev]

/-- The gather's send to peer `i`. -/
theorem send_ag {Q : α → sProp 𝕄} (i : Fin 3) (l : ℕ) (hl : l < 3) (ps : List Pay) (n : Dev nD) (hn : n = peer c i)
    {k : PUnit → PROG F α} {hsc : (slotOf xgM i.rev.succ).view.ref.isScScratch = false} {hsrc : (slotOf xgM 0).view.WordExact}
    {hdst : (slotOf xgM i.rev.succ).view.WordExact} (hN : (slotOf xgM i.rev.succ).view.dmaCredit = N)
    {hsem : DmaTarget.Typed .vmem (.dma (chSem 1 i.rev)) (.remote (n : Thread nD τ) (slotOf xgM i.rev.succ) (.dma (chSem 0 i)) hsc)} :
    iprop(env V K ∗ owns (c : Thread nD τ) (slotOf xgM 0) (qsh i) (V.X l c) ∗ xDoor c i l ∗ agRide (peer c i) i.rev l ∗ sendTok c 0 1 l i ∗ ow c (.ag l i :: ps))
      ⊢ iprop(((cred (tallyAt (ch c 0 i) 0 N) ∗ ow c ps) -∗ WP c (k ⟨⟩) Q)
          -∗ WP c (.op (.enqueueDma (slotOf xgM 0) (.remote (n : Thread nD τ) (slotOf xgM i.rev.succ) (.dma (chSem 0 i)) hsc) (.dma (chSem 1 i.rev)) hsrc hdst hsem) k) Q) := by
  subst hn
  unfold sendTok xDoor
  iintro ⟨#He, Hx, ⟨D, R⟩, A, ⟨T, S, U⟩, HO⟩ Hk
  iapply (step_send V K c i l hl 0 1 ps (.ag l i) rfl (slotOf xgM 0) (slotOf xgM i.rev.succ) hN (qsh i) (V.X l c) (agRide (peer c i) i.rev l)
    .rfl (Entails.of_eq (chPay_gather V c i l).symm)) $$ [Hx D R A T S U HO]
  · isplitr; · iexact He
    isplitl [Hx]; · iexact Hx
    isplitl [D]; · iexact D
    isplitl [A]; · iexact A
    isplitl [HO]; · iexact HO
    isplitl [T]; · iexact T
    isplitl [S]; · iexact S
    isplitl [U]; · iexact U
    iexact R
  iexact Hk

/-- The scatter's send to peer `i`. -/
theorem send_rs {Q : α → sProp 𝕄} (i : Fin 3) (l : ℕ) (hl : l < 3) (ps : List Pay) (n : Dev nD) (hn : n = peer c i)
    {k : PUnit → PROG F α} {hsc : (slotOf pgM i.rev.succ).view.ref.isScScratch = false} {hsrc : (rowsOf i.succ).view.WordExact}
    {hdst : (slotOf pgM i.rev.succ).view.WordExact} (hN : (slotOf pgM i.rev.succ).view.dmaCredit = N)
    {hsem : DmaTarget.Typed .vmem (.dma (chSem 3 i.rev)) (.remote (n : Thread nD τ) (slotOf pgM i.rev.succ) (.dma (chSem 2 i)) hsc)} :
    iprop(env V K ∗ owns (c : Thread nD τ) (rowsOf i.succ) fullShare (V.P l c i.succ) ∗ pDoor c i l ∗ rsRide (peer c i) i.rev l ∗ sendTok c 2 3 l i ∗ ow c (.rs l i :: ps))
      ⊢ iprop(((cred (tallyAt (ch c 2 i) 0 N) ∗ ow c ps) -∗ WP c (k ⟨⟩) Q)
          -∗ WP c (.op (.enqueueDma (rowsOf i.succ) (.remote (n : Thread nD τ) (slotOf pgM i.rev.succ) (.dma (chSem 2 i)) hsc) (.dma (chSem 3 i.rev)) hsrc hdst hsem) k) Q) := by
  subst hn
  unfold sendTok pDoor
  iintro ⟨#He, Hx, ⟨D, R⟩, A, ⟨T, S, U⟩, HO⟩ Hk
  iapply (step_send V K c i l hl 2 3 ps (.rs l i) rfl (rowsOf i.succ) (slotOf pgM i.rev.succ) hN fullShare (V.P l c i.succ) (rsRide (peer c i) i.rev l)
    .rfl (Entails.of_eq (chPay_scatter V c i l).symm)) $$ [Hx D R A T S U HO]
  · isplitr; · iexact He
    isplitl [Hx]; · iexact Hx
    isplitl [D]; · iexact D
    isplitl [A]; · iexact A
    isplitl [HO]; · iexact HO
    isplitl [T]; · iexact T
    isplitl [S]; · iexact S
    isplitl [U]; · iexact U
    iexact R
  iexact Hk

/-- The own activation, in the three shares that travel and the one that stays. -/
theorem xShares (X : Blk F) :
    (owns (c : Thread nD τ) (slotOf xgM 0) fullShare X : sProp 𝕄)
      ⊣⊢ iprop(all3 (fun i => owns (c : Thread nD τ) (slotOf xgM 0) (qsh i) X) ∗ owns (c : Thread nD τ) (slotOf xgM 0) qkeep X) := by
  constructor
  · iintro Hx
    ihave H := (owns_halves (c : Thread nD τ) (slotOf xgM 0) fullShare X).1 $$ Hx
    icases H with ⟨HL, HR⟩
    ihave H := (owns_halves (c : Thread nD τ) (slotOf xgM 0) fullShare.left X).1 $$ HL
    icases H with ⟨HLL, HLR⟩
    ihave H := (owns_halves (c : Thread nD τ) (slotOf xgM 0) fullShare.right X).1 $$ HR
    icases H with ⟨HRL, HRR⟩
    isplitr [HRR]
    · isplitl [HLR]; · iexact HLR
      isplitl [HLL]; · iexact HLL
      iexact HRL
    iexact HRR
  · iintro ⟨⟨HLR, HLL, HRL⟩, HRR⟩
    iapply (owns_halves (c : Thread nD τ) (slotOf xgM 0) fullShare X).2
    isplitl [HLL HLR]
    · iapply (owns_halves (c : Thread nD τ) (slotOf xgM 0) fullShare.left X).2
      isplitl [HLL]; · iexact HLL
      iexact HLR
    · iapply (owns_halves (c : Thread nD τ) (slotOf xgM 0) fullShare.right X).2
      isplitl [HRL]; · iexact HRL
      iexact HRR

/-- The sends of the gather to the three peers. -/
theorem agSend {Q : α → sProp 𝕄} (l : ℕ) (hl : l < 3) (ps : List Pay) (n₁ n₀ n₂ : Dev nD) (h₁ : n₁ = peer c 1) (h₀ : n₀ = peer c 0) (h₂ : n₂ = peer c 2)
    {k : PROG F α}
    {sc₁ : (slotOf xgM 2).view.ref.isScScratch = false} {sc₀ : (slotOf xgM 3).view.ref.isScScratch = false} {sc₂ : (slotOf xgM 1).view.ref.isScScratch = false}
    {x₁ x₀ x₂ : (slotOf xgM 0).view.WordExact} {d₁ : (slotOf xgM 2).view.WordExact} {d₀ : (slotOf xgM 3).view.WordExact} {d₂ : (slotOf xgM 1).view.WordExact}
    {t₁ : DmaTarget.Typed .vmem (.dma (chSem 1 1)) (.remote (n₁ : Thread nD τ) (slotOf xgM 2) (.dma (chSem 0 1)) sc₁)}
    {t₀ : DmaTarget.Typed .vmem (.dma (chSem 1 2)) (.remote (n₀ : Thread nD τ) (slotOf xgM 3) (.dma (chSem 0 0)) sc₀)}
    {t₂ : DmaTarget.Typed .vmem (.dma (chSem 1 0)) (.remote (n₂ : Thread nD τ) (slotOf xgM 1) (.dma (chSem 0 2)) sc₂)} :
    iprop(env V K ∗ owns (c : Thread nD τ) (slotOf xgM 0) fullShare (V.X l c) ∗ all3 (fun i => xDoor c i l) ∗ all3 (fun i => agRide (peer c i) i.rev l)
        ∗ all3 (sendTok c 0 1 l) ∗ ow c (.ag l 1 :: .ag l 0 :: .ag l 2 :: ps))
      ⊢ iprop(((owns (c : Thread nD τ) (slotOf xgM 0) qkeep (V.X l c) ∗ all3 (fun i => cred (tallyAt (ch c 0 i) 0 N)) ∗ ow c ps) -∗ WP c k Q)
          -∗ WP c (.op (.enqueueDma (slotOf xgM 0) (.remote (n₁ : Thread nD τ) (slotOf xgM 2) (.dma (chSem 0 1)) sc₁) (.dma (chSem 1 1)) x₁ d₁ t₁) fun _ =>
              .op (.enqueueDma (slotOf xgM 0) (.remote (n₀ : Thread nD τ) (slotOf xgM 3) (.dma (chSem 0 0)) sc₀) (.dma (chSem 1 2)) x₀ d₀ t₀) fun _ =>
              .op (.enqueueDma (slotOf xgM 0) (.remote (n₂ : Thread nD τ) (slotOf xgM 1) (.dma (chSem 0 2)) sc₂) (.dma (chSem 1 0)) x₂ d₂ t₂) fun _ => k) Q) := by
  iintro ⟨#He, Hx, ⟨D0, D1, D2⟩, ⟨A0, A1, A2⟩, ⟨T0, T1, T2⟩, HO⟩ Hk
  ihave H := (xShares c (V.X l c)).1 $$ Hx
  icases H with ⟨⟨X0, X1, X2⟩, Hx⟩
  iapply (send_ag V K c 1 l hl _ n₁ h₁ rfl) $$ [X1 D1 A1 T1 HO]
  · isplitr; · iexact He
    isplitl [X1]; · iexact X1
    isplitl [D1]; · iexact D1
    isplitl [A1]; · iexact A1
    isplitl [T1]; · iexact T1
    iexact HO
  iintro ⟨C1, HO⟩
  iapply (send_ag V K c 0 l hl _ n₀ h₀ rfl) $$ [X0 D0 A0 T0 HO]
  · isplitr; · iexact He
    isplitl [X0]; · iexact X0
    isplitl [D0]; · iexact D0
    isplitl [A0]; · iexact A0
    isplitl [T0]; · iexact T0
    iexact HO
  iintro ⟨C0, HO⟩
  iapply (send_ag V K c 2 l hl _ n₂ h₂ rfl) $$ [X2 D2 A2 T2 HO]
  · isplitr; · iexact He
    isplitl [X2]; · iexact X2
    isplitl [D2]; · iexact D2
    isplitl [A2]; · iexact A2
    isplitl [T2]; · iexact T2
    iexact HO
  iintro ⟨C2, HO⟩
  iapply Hk
  isplitl [Hx]; · iexact Hx
  isplitr [HO]
  · isplitl [C0]; · iexact C0
    isplitl [C1]; · iexact C1
    iexact C2
  iexact HO

/-- The sends of the scatter to the three peers. -/
theorem rsSend {Q : α → sProp 𝕄} (l : ℕ) (hl : l < 3) (ps : List Pay) (n₁ n₀ n₂ : Dev nD) (h₁ : n₁ = peer c 1) (h₀ : n₀ = peer c 0) (h₂ : n₂ = peer c 2)
    {k : PROG F α}
    {sc₁ : (slotOf pgM 2).view.ref.isScScratch = false} {sc₀ : (slotOf pgM 3).view.ref.isScScratch = false} {sc₂ : (slotOf pgM 1).view.ref.isScScratch = false}
    {x₁ : (rowsOf 2).view.WordExact} {x₀ : (rowsOf 1).view.WordExact} {x₂ : (rowsOf 3).view.WordExact}
    {d₁ : (slotOf pgM 2).view.WordExact} {d₀ : (slotOf pgM 3).view.WordExact} {d₂ : (slotOf pgM 1).view.WordExact}
    {t₁ : DmaTarget.Typed .vmem (.dma (chSem 3 1)) (.remote (n₁ : Thread nD τ) (slotOf pgM 2) (.dma (chSem 2 1)) sc₁)}
    {t₀ : DmaTarget.Typed .vmem (.dma (chSem 3 2)) (.remote (n₀ : Thread nD τ) (slotOf pgM 3) (.dma (chSem 2 0)) sc₀)}
    {t₂ : DmaTarget.Typed .vmem (.dma (chSem 3 0)) (.remote (n₂ : Thread nD τ) (slotOf pgM 1) (.dma (chSem 2 2)) sc₂)} :
    iprop(env V K ∗ all3 (fun i => owns (c : Thread nD τ) (rowsOf i.succ) fullShare (V.P l c i.succ)) ∗ all3 (fun i => pDoor c i l) ∗ all3 (fun i => rsRide (peer c i) i.rev l)
        ∗ all3 (sendTok c 2 3 l) ∗ ow c (.rs l 1 :: .rs l 0 :: .rs l 2 :: ps))
      ⊢ iprop(((all3 (fun i => cred (tallyAt (ch c 2 i) 0 N)) ∗ ow c ps) -∗ WP c k Q)
          -∗ WP c (.op (.enqueueDma (rowsOf 2) (.remote (n₁ : Thread nD τ) (slotOf pgM 2) (.dma (chSem 2 1)) sc₁) (.dma (chSem 3 1)) x₁ d₁ t₁) fun _ =>
              .op (.enqueueDma (rowsOf 1) (.remote (n₀ : Thread nD τ) (slotOf pgM 3) (.dma (chSem 2 0)) sc₀) (.dma (chSem 3 2)) x₀ d₀ t₀) fun _ =>
              .op (.enqueueDma (rowsOf 3) (.remote (n₂ : Thread nD τ) (slotOf pgM 1) (.dma (chSem 2 2)) sc₂) (.dma (chSem 3 0)) x₂ d₂ t₂) fun _ => k) Q) := by
  iintro ⟨#He, ⟨X0, X1, X2⟩, ⟨D0, D1, D2⟩, ⟨A0, A1, A2⟩, ⟨T0, T1, T2⟩, HO⟩ Hk
  iapply (send_rs V K c 1 l hl _ n₁ h₁ rfl) $$ [X1 D1 A1 T1 HO]
  · isplitr; · iexact He
    isplitl [X1]; · iexact X1
    isplitl [D1]; · iexact D1
    isplitl [A1]; · iexact A1
    isplitl [T1]; · iexact T1
    iexact HO
  iintro ⟨C1, HO⟩
  iapply (send_rs V K c 0 l hl _ n₀ h₀ rfl) $$ [X0 D0 A0 T0 HO]
  · isplitr; · iexact He
    isplitl [X0]; · iexact X0
    isplitl [D0]; · iexact D0
    isplitl [A0]; · iexact A0
    isplitl [T0]; · iexact T0
    iexact HO
  iintro ⟨C0, HO⟩
  iapply (send_rs V K c 2 l hl _ n₂ h₂ rfl) $$ [X2 D2 A2 T2 HO]
  · isplitr; · iexact He
    isplitl [X2]; · iexact X2
    isplitl [D2]; · iexact D2
    isplitl [A2]; · iexact A2
    isplitl [T2]; · iexact T2
    iexact HO
  iintro ⟨C2, HO⟩
  iapply Hk
  isplitr [HO]
  · isplitl [C0]; · iexact C0
    isplitl [C1]; · iexact C1
    iexact C2
  iexact HO

/-! ## Waits -/

/-- A block in the shape of a slot. -/
abbrev slotCast (Y : Blk F) : (j : Fin 4) → (slotR j).shape.Idx → Elt F .bf16
  | 0 | 1 | 2 | 3 => shapeCast S1x64x1024 Y shapeCasts_S64x1024_S1x64x1024

/-- A slot owned as a block is its rectangle owned at the block reshaped. -/
theorem owns_slot (A : Memref sig .tc .vmem S4x64x1024 .bf16) (j : Fin 4) (q : PosShare TreeShare) (Y : Blk F) :
    (owns (c : Thread nD τ) (slotOf A j) q Y : sProp 𝕄)
      ⊣⊢ owns (c : Thread nD τ) (A.slice (slotR j) (slotR_stride j)) q (slotCast Y j) := by
  fin_cases j
  · exact owns_squeeze (c : Thread nD τ) (A.slice (slotR 0) (slotR_stride 0)) squeezes_S1x64x1024_S64x1024 shapeCasts_S64x1024_S1x64x1024 q Y
  · exact owns_squeeze (c : Thread nD τ) (A.slice (slotR 1) (slotR_stride 1)) squeezes_S1x64x1024_S64x1024 shapeCasts_S64x1024_S1x64x1024 q Y
  · exact owns_squeeze (c : Thread nD τ) (A.slice (slotR 2) (slotR_stride 2)) squeezes_S1x64x1024_S64x1024 shapeCasts_S64x1024_S1x64x1024 q Y
  · exact owns_squeeze (c : Thread nD τ) (A.slice (slotR 3) (slotR_stride 3)) squeezes_S1x64x1024_S64x1024 shapeCasts_S64x1024_S1x64x1024 q Y

/-- A load of a slot through its buffer of four. -/
theorem load_slot {Q : α → sProp 𝕄} (A : Memref sig .tc .vmem S4x64x1024 .bf16) (j : Fin 4) {q : PosShare TreeShare} (Y : Blk F)
    {hl : A.view.LoadsAt (slotR j)} {k : ((slotR j).shape.Idx → Elt F .bf16) → PROG F α} :
    (owns (c : Thread nD τ) (slotOf A j) q Y : sProp 𝕄)
      ⊢ iprop((owns (c : Thread nD τ) (slotOf A j) q Y -∗ WP c (k (slotCast Y j)) Q) -∗ WP c (.op (.load A (slotR j) hl) k) Q) := by
  iintro H Hk
  ihave H := (owns_slot c A j q Y).1 $$ H
  iapply (load_slice c (slotR_stride j) _) $$ H
  iintro H
  iapply Hk
  iapply (owns_slot c A j q Y).2
  iexact H

/-- A store to the first slot through its buffer of four. -/
theorem store_slot {Q : α → sProp 𝕄} (A : Memref sig .tc .vmem S4x64x1024 .bf16) (X Y : Blk F) {w : S1x64x1024.Idx → Elt F .bf16}
    (hw : w = shapeCast S1x64x1024 Y shapeCasts_S64x1024_S1x64x1024)
    {hx : (A.access (slotR 0)).Stores Finset.univ} {hm : (Finset.univ : Finset (slotR 0).shape.Idx) = Finset.univ ∨ ∀ a, (slotR 0).stride a = 1}
    {k : PUnit → PROG F α} :
    (owns (c : Thread nD τ) (slotOf A 0) fullShare X : sProp 𝕄)
      ⊢ iprop((owns (c : Thread nD τ) (slotOf A 0) fullShare Y -∗ WP c (k ⟨⟩) Q) -∗ WP c (.op (.store A (slotR 0) w Finset.univ hx hm) k) Q) := by
  subst hw
  iintro H Hk
  ihave H := (owns_slot c A 0 fullShare X).1 $$ H
  iapply (store_slice c (slotR_stride 0)) $$ [H]
  · iexists _; iexact H
  iintro H
  iapply Hk
  iapply (owns_slot c A 0 fullShare Y).2
  iexact H

/-- What three waits on a channel take, -/
abbrev waits3 (a : Fin 4) (r l : ℕ) : sProp 𝕄 := iprop(all3 (fun i => cred (tallyAt (ch c a i) r N)) ∗ all3 (atCh c a l))
/-- and leave. -/
abbrev past3 (a : Fin 4) (l : ℕ) : sProp 𝕄 := all3 (fun i => iprop(atCh c a l i ∗ reached ER (ch c a i) l))

/-- What an arrival of the gather brings. -/
theorem chPay_ag (i : Fin 3) (l : ℕ) :
    chPay V c i l 1 ⊢ iprop(owns (c : Thread nD τ) (slotOf xgM i.succ) fullShare (V.X l (peer c i)) ∗ agRide c i l) := .rfl

/-- The gather's arrivals: the peers' activations. -/
theorem agRecv {Q : α → sProp 𝕄} (l : ℕ) (hl : l < 3) (ps : List Pay) (hps : ∀ p ∈ ps, 2 + 2 * l < p.lev ∧ p.rnd < 3) {k : PROG F α}
    {s₀ s₁ s₂ d₀ d₁ d₂ : Memref sig .tc .vmem S64x1024 .bf16} {x₀ : s₀.view.WordExact} {x₁ : s₁.view.WordExact} {x₂ : s₂.view.WordExact}
    {y₀ : d₀.view.WordExact} {y₁ : d₁.view.WordExact} {y₂ : d₂.view.WordExact}
    (h₀ : d₀.view.dmaCredit = N) (h₁ : d₁.view.dmaCredit = N) (h₂ : d₂.view.dmaCredit = N) :
    iprop(env V K ∗ waits3 c 1 l l ∗ ow c ps)
      ⊢ iprop(((all3 (fun i => iprop(owns (c : Thread nD τ) (slotOf xgM i.succ) fullShare (V.X l (peer c i)) ∗ agRide c i l)) ∗ past3 c 1 (l + 1) ∗ ow c ps) -∗ WP c k Q)
          -∗ WP c (.op (.waitDma2 (chSem 1 0) s₀ d₀ x₀ y₀) fun _ => .op (.waitDma2 (chSem 1 2) s₂ d₂ x₂ y₂) fun _ =>
              .op (.waitDma2 (chSem 1 1) s₁ d₁ x₁ y₁) fun _ => k) Q) := by
  iintro ⟨#He, ⟨⟨C0, C1, C2⟩, ⟨P0, P1, P2⟩⟩, HO⟩ Hk
  iapply (step_wait V K c 1 0 l l hl hl ps hps h₀) $$ [C0 P0 HO]
  · isplitr; · iexact He
    isplitl [C0]; · iexact C0
    isplitl [HO]; · iexact HO
    iexact P0
  iintro ⟨HO, P0, R0, B0⟩
  iapply (step_wait V K c 1 2 l l hl hl ps hps h₂) $$ [C2 P2 HO]
  · isplitr; · iexact He
    isplitl [C2]; · iexact C2
    isplitl [HO]; · iexact HO
    iexact P2
  iintro ⟨HO, P2, R2, B2⟩
  iapply (step_wait V K c 1 1 l l hl hl ps hps h₁) $$ [C1 P1 HO]
  · isplitr; · iexact He
    isplitl [C1]; · iexact C1
    isplitl [HO]; · iexact HO
    iexact P1
  iintro ⟨HO, P1, R1, B1⟩
  iapply Hk
  isplitl [B0 B1 B2]
  · isplitl [B0]; · iapply (chPay_ag V c 0 l) $$ B0
    isplitl [B1]; · iapply (chPay_ag V c 1 l) $$ B1
    iapply (chPay_ag V c 2 l) $$ B2
  isplitr [HO]
  · isplitl [P0 R0]; · isplitl [P0]; · iexact P0
                       iexact R0
    isplitl [P1 R1]; · isplitl [P1]; · iexact P1
                       iexact R1
    isplitl [P2]; · iexact P2
    iexact R2
  iexact HO

/-- Departures on a send channel, in the order of the sends: the sources are back. -/
theorem sent3 {Q : α → sProp 𝕄} (a : Fin 4) (hz : ∀ i, lvOf 0 (some (some (a, i))) = 0) (l : ℕ) (hl : l < 3) (ps : List Pay) (hps : ∀ p ∈ ps, 0 < p.lev ∧ p.rnd < 3)
    {k : PROG F α} {sp₀ sp₁ sp₂ dp₀ dp₁ dp₂ : Space}
    {s₀ : Memref sig .tc sp₀ S64x1024 .bf16} {s₁ : Memref sig .tc sp₁ S64x1024 .bf16} {s₂ : Memref sig .tc sp₂ S64x1024 .bf16}
    {d₀ : Memref sig .tc dp₀ S64x1024 .bf16} {d₁ : Memref sig .tc dp₁ S64x1024 .bf16} {d₂ : Memref sig .tc dp₂ S64x1024 .bf16}
    {x₀ : s₀.view.WordExact} {x₁ : s₁.view.WordExact} {x₂ : s₂.view.WordExact}
    {y₀ : d₀.view.WordExact} {y₁ : d₁.view.WordExact} {y₂ : d₂.view.WordExact}
    (h₀ : d₀.view.dmaCredit = N) (h₁ : d₁.view.dmaCredit = N) (h₂ : d₂.view.dmaCredit = N) :
    iprop(env V K ∗ waits3 c a 0 l ∗ ow c ps)
      ⊢ iprop(((all3 (fun i => chPay V c i l a) ∗ past3 c a (l + 1) ∗ ow c ps) -∗ WP c k Q)
          -∗ WP c (.op (.waitDma2 (chSem a 1) s₁ d₁ x₁ y₁) fun _ => .op (.waitDma2 (chSem a 0) s₀ d₀ x₀ y₀) fun _ =>
              .op (.waitDma2 (chSem a 2) s₂ d₂ x₂ y₂) fun _ => k) Q) := by
  iintro ⟨#He, ⟨⟨C0, C1, C2⟩, ⟨P0, P1, P2⟩⟩, HO⟩ Hk
  iapply (step_wait V K c a 1 0 l (by decide) hl ps (by rw [hz]; exact hps) h₁) $$ [C1 P1 HO]
  · isplitr; · iexact He
    isplitl [C1]; · iexact C1
    isplitl [HO]; · iexact HO
    iexact P1
  iintro ⟨HO, P1, R1, B1⟩
  iapply (step_wait V K c a 0 0 l (by decide) hl ps (by rw [hz]; exact hps) h₀) $$ [C0 P0 HO]
  · isplitr; · iexact He
    isplitl [C0]; · iexact C0
    isplitl [HO]; · iexact HO
    iexact P0
  iintro ⟨HO, P0, R0, B0⟩
  iapply (step_wait V K c a 2 0 l (by decide) hl ps (by rw [hz]; exact hps) h₂) $$ [C2 P2 HO]
  · isplitr; · iexact He
    isplitl [C2]; · iexact C2
    isplitl [HO]; · iexact HO
    iexact P2
  iintro ⟨HO, P2, R2, B2⟩
  iapply Hk
  isplitl [B0 B1 B2]
  · isplitl [B0]; · iexact B0
    isplitl [B1]; · iexact B1
    iexact B2
  isplitr [HO]
  · isplitl [P0 R0]; · isplitl [P0]; · iexact P0
                       iexact R0
    isplitl [P1 R1]; · isplitl [P1]; · iexact P1
                       iexact R1
    isplitl [P2]; · iexact P2
    iexact R2
  iexact HO

/-- The peers' partial products as a load through the buffer of four reads them. -/
abbrev arrived (l : ℕ) (i : Fin 3) : S1x64x1024.Idx → Elt F .bf16 := shapeCast S1x64x1024 (V.P l (peer c i) i.rev.succ) shapeCasts_S64x1024_S1x64x1024

/-- The scatter's arrivals, each read at once: the peers' partial products for this device. -/
theorem rsRecv {Q : α → sProp 𝕄} (l : ℕ) (hl : l < 3) (ps : List Pay) (hps : ∀ p ∈ ps, 3 + 2 * l < p.lev ∧ p.rnd < 3)
    {k : (S1x64x1024.Idx → Elt F .bf16) → (S1x64x1024.Idx → Elt F .bf16) → (S1x64x1024.Idx → Elt F .bf16) → PROG F α}
    {s₀ s₁ s₂ d₀ d₁ d₂ : Memref sig .tc .vmem S64x1024 .bf16} {x₀ : s₀.view.WordExact} {x₁ : s₁.view.WordExact} {x₂ : s₂.view.WordExact}
    {y₀ : d₀.view.WordExact} {y₁ : d₁.view.WordExact} {y₂ : d₂.view.WordExact}
    {l₃ : pgM.view.LoadsAt (slotR 3)} {l₁ : pgM.view.LoadsAt (slotR 1)} {l₂ : pgM.view.LoadsAt (slotR 2)}
    (h₀ : d₀.view.dmaCredit = N) (h₁ : d₁.view.dmaCredit = N) (h₂ : d₂.view.dmaCredit = N) :
    iprop(env V K ∗ waits3 c 3 l l ∗ ow c ps)
      ⊢ iprop(((all3 (fun i => iprop(anyBlk c (slotOf pgM i.succ) ∗ rsRide c i l)) ∗ past3 c 3 (l + 1) ∗ ow c ps)
            -∗ WP c (k (arrived V c l 2) (arrived V c l 0) (arrived V c l 1)) Q)
          -∗ WP c (.op (.waitDma2 (chSem 3 2) s₂ d₂ x₂ y₂) fun _ => .op (.load pgM (slotR 3) l₃) fun v₃ =>
              .op (.waitDma2 (chSem 3 0) s₀ d₀ x₀ y₀) fun _ => .op (.load pgM (slotR 1) l₁) fun v₁ =>
              .op (.waitDma2 (chSem 3 1) s₁ d₁ x₁ y₁) fun _ => .op (.load pgM (slotR 2) l₂) fun v₂ => k v₃ v₁ v₂) Q) := by
  iintro ⟨#He, ⟨⟨C0, C1, C2⟩, ⟨P0, P1, P2⟩⟩, HO⟩ Hk
  iapply (step_wait V K c 3 2 l l hl hl ps hps h₂) $$ [C2 P2 HO]
  · isplitr; · iexact He
    isplitl [C2]; · iexact C2
    isplitl [HO]; · iexact HO
    iexact P2
  iintro ⟨HO, P2, R2, B2⟩
  ihave B2 := (show chPay V c 2 l 3 ⊢ iprop(owns (c : Thread nD τ) (slotOf pgM 3) fullShare (V.P l (peer c 2) 1) ∗ rsRide c 2 l) from .rfl) $$ B2
  icases B2 with ⟨B2, Q2⟩
  iapply (load_slot c pgM 3 (V.P l (peer c 2) 1)) $$ B2
  iintro B2
  iapply (step_wait V K c 3 0 l l hl hl ps hps h₀) $$ [C0 P0 HO]
  · isplitr; · iexact He
    isplitl [C0]; · iexact C0
    isplitl [HO]; · iexact HO
    iexact P0
  iintro ⟨HO, P0, R0, B0⟩
  ihave B0 := (show chPay V c 0 l 3 ⊢ iprop(owns (c : Thread nD τ) (slotOf pgM 1) fullShare (V.P l (peer c 0) 3) ∗ rsRide c 0 l) from .rfl) $$ B0
  icases B0 with ⟨B0, Q0⟩
  iapply (load_slot c pgM 1 (V.P l (peer c 0) 3)) $$ B0
  iintro B0
  iapply (step_wait V K c 3 1 l l hl hl ps hps h₁) $$ [C1 P1 HO]
  · isplitr; · iexact He
    isplitl [C1]; · iexact C1
    isplitl [HO]; · iexact HO
    iexact P1
  iintro ⟨HO, P1, R1, B1⟩
  ihave B1 := (show chPay V c 1 l 3 ⊢ iprop(owns (c : Thread nD τ) (slotOf pgM 2) fullShare (V.P l (peer c 1) 2) ∗ rsRide c 1 l) from .rfl) $$ B1
  icases B1 with ⟨B1, Q1⟩
  iapply (load_slot c pgM 2 (V.P l (peer c 1) 2)) $$ B1
  iintro B1
  iapply Hk
  isplitl [B0 Q0 B1 Q1 B2 Q2]
  · unfold anyBlk
    isplitl [B0 Q0]
    · isplitl [B0]; · iexists _; iexact B0
      iexact Q0
    isplitl [B1 Q1]
    · isplitl [B1]; · iexists _; iexact B1
      iexact Q1
    isplitl [B2]; · iexists _; iexact B2
    iexact Q2
  isplitr [HO]
  · isplitl [P0 R0]; · isplitl [P0]; · iexact P0
                       iexact R0
    isplitl [P1 R1]; · isplitl [P1]; · iexact P1
                       iexact R1
    isplitl [P2]; · iexact P2
    iexact R2
  iexact HO

end Cert.KernelIdeal.Mesh

end
-- ==== Proof.Weights.lean ====
/-
# The weights' way in, and the matrices between

The transfers of the weights, their narrowing, the reads of whole buffers and the writing of the partial product.
-/
module

public import proofs.«01_k».proof.Proof.Exchange
public import Idealize.ShloMosaic.Lib.Transfers
public import Idealize.ShloMosaic.Lib.VecWindow

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Vals F) (K : Dev nD × CK → ℕ) (c : Dev nD) {α : Type}

/-! ## Local transfers -/

section Local
variable {s : Shape} {e : EltTy}

/-- A transfer of `W` under way from `src` to `dst`, to be waited for at `sm`. -/
def fetching (sm : DmaSem sig) (src : Memref sig .tc .hbm s e) (dst : Memref sig .tc .vmem s e) (W : s.Idx → Elt F e) : sProp 𝕄 :=
  Transfers.Flight (countersEmb (nD := nD) (τ := τ) (sig := sig) (Ix := ℕ) (Val := Elt F) (Name := ℕ) (U := UU) (Lvl := ℕ)) (c : Thread nD τ) (.dma sm) 0 dst.view.dmaCredit
    iprop(owns (c : Thread nD τ) dst fullShare W ∗ owns (c : Thread nD τ) src fullShare W)

/-- Starting a transfer. -/
theorem fetch {Q : α → sProp 𝕄} {src : Memref sig .tc .hbm s e} {dst : Memref sig .tc .vmem s e} {sm : DmaSem sig} (W : s.Idx → Elt F e) (hN : 0 < dst.view.dmaCredit)
    {hsrc : src.view.WordExact} {hdst : dst.view.WordExact} {hsem : DmaTarget.Typed (nD := nD) (τ := τ) (p := .tc) .hbm (.dma sm) (.here dst : DmaTarget nD τ sig .tc .vmem s e)} {k : PUnit → PROG F α} :
    iprop(owns (c : Thread nD τ) src fullShare W ∗ (∃ X, owns (c : Thread nD τ) dst fullShare X) ∗ semVal ((c : Thread nD τ), .dma sm) 0)
      ⊢ iprop((fetching c sm src dst W -∗ WP c (k ⟨⟩) Q) -∗ WP c (.op (.enqueueDma src (.here dst) (.dma sm) hsrc hdst hsem) k) Q) := by
  iintro ⟨Hs, ⟨%X, Hd⟩, Hv⟩ Hk
  ihave Hs := (show (owns (c : Thread nD τ) src fullShare W : sProp 𝕄) ⊢ iprop(∃ f, ⌜src.view.read (Elt F) f = W⌝ ∗ src.view.loc (c : Thread nD τ) ↦[src.view.set]{fullShare} f) from .rfl) $$ Hs
  icases Hs with ⟨%f, %hf, Hs⟩
  ihave Hd := (show (owns (c : Thread nD τ) dst fullShare X : sProp 𝕄) ⊢ iprop(∃ f, ⌜dst.view.read (Elt F) f = X⌝ ∗ dst.view.loc (c : Thread nD τ) ↦[dst.view.set]{fullShare} f) from .rfl) $$ Hd
  icases Hd with ⟨%g, -, Hd⟩
  subst hf
  iapply (Transfers.wp_dmaLocal countersEmb 𝒱₀ (c : Thread nD τ) none 0 dst.view.dmaCredit rfl hN (Finset.Subset.refl _)) $$ [Hs Hd Hv]
  · isplitl [Hs]; · iexact Hs
    isplitl [Hd]; · iexact Hd
    iexact Hv
  iintro HF
  iapply Hk
  unfold fetching
  iapply (Transfers.Flight_mono countersEmb (c : Thread nD τ) (D := iprop((dst.view.loc (c : Thread nD τ) ↦[dst.view.set]{fullShare} (dst.view.write (Elt F) g (src.view.read (Elt F) f) Finset.univ))
      ∗ (src.view.loc (c : Thread nD τ) ↦[src.view.set]{fullShare} f)))
    (by
      iintro ⟨Hd, Hs⟩
      isplitl [Hd]
      · have h := owns_intro (Ix := ℕ) (Name := ℕ) (U := UU) (Lvl := ℕ) (c : Thread nD τ) dst fullShare (dst.view.write (Elt F) g (src.view.read (Elt F) f) Finset.univ)
        rw [View.read_write_univ] at h
        iapply h; iexact Hd
      · iapply (owns_intro (c : Thread nD τ) src fullShare f); iexact Hs))
  iexact HF

/-- Waiting for it. -/
theorem fetched {Q : α → sProp 𝕄} {src : Memref sig .tc .hbm s e} {dst : Memref sig .tc .vmem s e} {sm : DmaSem sig} (W : s.Idx → Elt F e)
    (hsm : ck? ((c : Thread nD τ), .dma sm) = none) (ps : List Pay) (hps : ∀ p ∈ ps, 0 < p.lev ∧ p.rnd < 3)
    {hsrc : src.view.WordExact} {hdst : dst.view.WordExact} {k : PUnit → PROG F α} :
    iprop(env V K ∗ fetching c sm src dst W ∗ ow c ps)
      ⊢ iprop(((owns (c : Thread nD τ) dst fullShare W ∗ owns (c : Thread nD τ) src fullShare W ∗ semVal ((c : Thread nD τ), .dma sm) 0 ∗ ow c ps) -∗ WP c (k ⟨⟩) Q)
          -∗ WP c (.op (.waitDma2 sm src dst hsrc hdst) k) Q) := by
  unfold fetching ow
  iintro ⟨#He, HF, ⟨%W', HO⟩⟩ Hk
  iapply (Transfers.wp_waitLocalO countersEmb 𝒱₀ (c : Thread nD τ) none 0 rfl) $$ [HF HO]
  · isplitl [HF]; · iexact HF
    isplitl [HO]; · iexact HO
    iapply (mayWait c (.dma sm) 0 (by decide) ps (fun p hp => by unfold lv; rw [hsm]; exact hps p hp))
    iapply (env_lev V K); iexact He
  iintro ⟨⟨Hd, Hs⟩, Hv, HO⟩
  iapply Hk
  isplitl [Hd]; · iexact Hd
  isplitl [Hs]; · iexact Hs
  isplitl [Hv]; · iexact Hv
  iexists _; iexact HO

end Local

/-! ## Whole buffers -/

section Whole
variable {s : Shape} {e : EltTy}

/-- A load of all of a buffer. -/
theorem load_all {Q : α → sProp 𝕄} {m : Memref sig .tc .vmem s e} {off : Fin s.rank → ℕ} {inb : ∀ a, off a + s.size a ≤ s.size a} {q : PosShare TreeShare}
    (X : s.Idx → Elt F e) {hl : m.view.LoadsAt (Rect.unit off s.size inb)} {k : (s.Idx → Elt F e) → PROG F α} :
    (owns (c : Thread nD τ) m q X : sProp 𝕄)
      ⊢ iprop((owns (c : Thread nD τ) m q X -∗ WP c (k X) Q) -∗ WP c (.op (.load m (Rect.unit off s.size inb) hl) k) Q) := by
  have h := load_sub (Q := Q) c (m := m) (r := Rect.unit off s.size inb) (q := q) X (hl := hl) (k := k)
  rwa [show (fun j => X ((Rect.unit off s.size inb).emb j)) = X from funext fun j => congrArg X (Rect.emb_unit_full inb j)] at h

/-- A store of all of a buffer. -/
theorem store_all {Q : α → sProp 𝕄} {m : Memref sig .tc .vmem s e} {off : Fin s.rank → ℕ} {inb : ∀ a, off a + s.size a ≤ s.size a} {w : s.Idx → Elt F e}
    {hx : (m.access (Rect.unit off s.size inb)).Stores Finset.univ} {hm : (Finset.univ : Finset s.Idx) = Finset.univ ∨ ∀ a, (Rect.unit off s.size inb).stride a = 1}
    {k : PUnit → PROG F α} :
    (iprop(∃ X, owns (c : Thread nD τ) m fullShare X) : sProp 𝕄)
      ⊢ iprop((owns (c : Thread nD τ) m fullShare w -∗ WP c (k ⟨⟩) Q) -∗ WP c (.op (.store m (Rect.unit off s.size inb) w Finset.univ hx hm) k) Q) := by
  unfold owns
  iintro ⟨%X, %f, -, H⟩ Hk
  iapply (wp_store 𝒱₀ (c : Thread nD τ) none Set.univ (m := m) (r := Rect.unit off s.size inb) (f := f) (w := w) (Mk := Finset.univ) (hx := hx) (hm := hm)
    (S := m.view.set) (View.set_slice_subset _ _)) $$ H
  iintro H
  iapply Hk
  iexists _
  isplitr
  · ipureintro
    funext j
    have h := congrFun (View.read_write_univ (v := m.view.slice (Rect.unit off s.size inb)) f w) j
    rw [← h]
    show m.view.read (Elt F) _ j = m.view.read (Elt F) _ ((Rect.unit off s.size inb).emb j)
    rw [Rect.emb_unit_full]
  iexact H

end Whole

/-! ## Narrowing the weights -/

/-- A buffer in two or four blocks of rows, and back. -/
theorem wi_split (X : S1024x2048.Idx → Elt F .bf16) :
    (owns (c : Thread nD τ) wiM fullShare X : sProp 𝕄) ⊣⊢ iprop(owns (c : Thread nD τ) (wiM.slice (wiR 0) (wiR_stride 0)) fullShare (fun j => X ((wiR 0).emb j))
      ∗ owns (c : Thread nD τ) (wiM.slice (wiR 1) (wiR_stride 1)) fullShare (fun j => X ((wiR 1).emb j))) := by
  rw [← sep2 (fun t => owns (c : Thread nD τ) (wiM.slice (wiR t) (wiR_stride t)) fullShare (fun j => X ((wiR t).emb j)))]
  exact ⟨owns_rects (c : Thread nD τ) wiM fullShare wiR wiR_stride wiR_disjoint wiR_cover X, owns_of_rects (c : Thread nD τ) wiM fullShare wiR wiR_stride wiR_disjoint wiR_cover X⟩

theorem wo_split (X : S2048x1024.Idx → Elt F .bf16) :
    (owns (c : Thread nD τ) woM fullShare X : sProp 𝕄) ⊣⊢ iprop(owns (c : Thread nD τ) (woM.slice (woR 0) (woR_stride 0)) fullShare (fun j => X ((woR 0).emb j))
      ∗ owns (c : Thread nD τ) (woM.slice (woR 1) (woR_stride 1)) fullShare (fun j => X ((woR 1).emb j))
      ∗ owns (c : Thread nD τ) (woM.slice (woR 2) (woR_stride 2)) fullShare (fun j => X ((woR 2).emb j))
      ∗ owns (c : Thread nD τ) (woM.slice (woR 3) (woR_stride 3)) fullShare (fun j => X ((woR 3).emb j))) := by
  rw [← sep4 (fun t => owns (c : Thread nD τ) (woM.slice (woR t) (woR_stride t)) fullShare (fun j => X ((woR t).emb j)))]
  exact ⟨owns_rects (c : Thread nD τ) woM fullShare woR woR_stride woR_disjoint woR_cover X, owns_of_rects (c : Thread nD τ) woM fullShare woR woR_stride woR_disjoint woR_cover X⟩

/-- One block: read, narrowed, written. -/
theorem narrow_block {Q : α → sProp 𝕄} {s : Shape} {src : Memref sig .tc .vmem s .f32} {dst : Memref sig .tc .vmem s .bf16} {r : Rect s} (hr : ∀ a, r.stride a = 1)
    (W : s.Idx → Elt F .f32) (g : FVec F r.shape .f32 → FVec F r.shape .bf16) (hg : ∀ v, g v = truncf .bf16 v bitsLt_bf16_f32)
    {h₁ : src.view.LoadsAt r} {h₂ : dst.view.LoadsAt r} {hx : (dst.access r).Stores Finset.univ} {hm : (Finset.univ : Finset r.shape.Idx) = Finset.univ ∨ ∀ a, r.stride a = 1}
    {k : PROG F α} :
    iprop(owns (c : Thread nD τ) src fullShare W ∗ (∃ X, owns (c : Thread nD τ) (dst.slice r hr) fullShare X))
      ⊢ iprop(((owns (c : Thread nD τ) src fullShare W
            ∗ owns (c : Thread nD τ) (dst.slice r hr) fullShare (fun j => (truncf .bf16 (show FVec F s .f32 from W) bitsLt_bf16_f32 : FVec F s .bf16) (r.emb j))) -∗ WP c k Q)
          -∗ WP c (.op (.load src r h₁) fun v => .op (.load dst r h₂) fun _ => .op (.store dst r (g v) Finset.univ hx hm) fun _ => k) Q) := by
  iintro ⟨Hs, ⟨%X, Hd⟩⟩ Hk
  iapply (load_sub c W) $$ Hs
  iintro Hs
  iapply (load_slice c hr X) $$ Hd
  iintro Hd
  iapply (store_slice c hr) $$ [Hd]
  · iexists X; iexact Hd
  iintro Hd
  iapply Hk
  isplitl [Hs]; · iexact Hs
  rw [hg]
  iexact Hd

/-- A weight matrix narrowed. -/
abbrev narrow {s : Shape} (W : FVec F s .f32) : FVec F s .bf16 := truncf .bf16 W bitsLt_bf16_f32

/-- The first weights of a layer, narrowed block by block. -/
theorem narrow_wi {Q : α → sProp 𝕄} (W : FVec F S1024x2048 .f32) (g₀ g₁ : FVec F S512x2048 .f32 → FVec F S512x2048 .bf16)
    (hg₀ : ∀ v, g₀ v = narrow v) (hg₁ : ∀ v, g₁ v = narrow v)
    {a₀ : siM.view.LoadsAt (wiR 0)} {a₁ : siM.view.LoadsAt (wiR 1)} {b₀ : wiM.view.LoadsAt (wiR 0)} {b₁ : wiM.view.LoadsAt (wiR 1)}
    {x₀ : (wiM.access (wiR 0)).Stores Finset.univ} {x₁ : (wiM.access (wiR 1)).Stores Finset.univ}
    {m₀ : (Finset.univ : Finset (wiR 0).shape.Idx) = Finset.univ ∨ ∀ a, (wiR 0).stride a = 1} {m₁ : (Finset.univ : Finset (wiR 1).shape.Idx) = Finset.univ ∨ ∀ a, (wiR 1).stride a = 1}
    {k : PROG F α} :
    iprop(owns (c : Thread nD τ) siM fullShare W ∗ (∃ X, owns (c : Thread nD τ) wiM fullShare X))
      ⊢ iprop(((owns (c : Thread nD τ) siM fullShare W ∗ owns (c : Thread nD τ) wiM fullShare (narrow W)) -∗ WP c k Q)
          -∗ WP c (.op (.load siM (wiR 0) a₀) fun v => .op (.load wiM (wiR 0) b₀) fun _ => .op (.store wiM (wiR 0) (g₀ v) Finset.univ x₀ m₀) fun _ =>
              .op (.load siM (wiR 1) a₁) fun v => .op (.load wiM (wiR 1) b₁) fun _ => .op (.store wiM (wiR 1) (g₁ v) Finset.univ x₁ m₁) fun _ => k) Q) := by
  iintro ⟨Hs, ⟨%X, Hd⟩⟩ Hk
  ihave Hd := (wi_split c X).1 $$ Hd
  icases Hd with ⟨D0, D1⟩
  iapply (narrow_block c (wiR_stride 0) W g₀ hg₀) $$ [Hs D0]
  · isplitl [Hs]; · iexact Hs
    iexists _; iexact D0
  iintro ⟨Hs, D0⟩
  iapply (narrow_block c (wiR_stride 1) W g₁ hg₁) $$ [Hs D1]
  · isplitl [Hs]; · iexact Hs
    iexists _; iexact D1
  iintro ⟨Hs, D1⟩
  iapply Hk
  isplitl [Hs]; · iexact Hs
  iapply (wi_split c (narrow W)).2
  isplitl [D0]; · iexact D0
  iexact D1

/-- The second weights of a layer. -/
theorem narrow_wo {Q : α → sProp 𝕄} (W : FVec F S2048x1024 .f32) (g₀ g₁ g₂ g₃ : FVec F S512x1024 .f32 → FVec F S512x1024 .bf16)
    (hg₀ : ∀ v, g₀ v = narrow v) (hg₁ : ∀ v, g₁ v = narrow v) (hg₂ : ∀ v, g₂ v = narrow v) (hg₃ : ∀ v, g₃ v = narrow v)
    {a₀ : soM.view.LoadsAt (woR 0)} {a₁ : soM.view.LoadsAt (woR 1)} {a₂ : soM.view.LoadsAt (woR 2)} {a₃ : soM.view.LoadsAt (woR 3)}
    {b₀ : woM.view.LoadsAt (woR 0)} {b₁ : woM.view.LoadsAt (woR 1)} {b₂ : woM.view.LoadsAt (woR 2)} {b₃ : woM.view.LoadsAt (woR 3)}
    {x₀ : (woM.access (woR 0)).Stores Finset.univ} {x₁ : (woM.access (woR 1)).Stores Finset.univ}
    {x₂ : (woM.access (woR 2)).Stores Finset.univ} {x₃ : (woM.access (woR 3)).Stores Finset.univ}
    {m₀ : (Finset.univ : Finset (woR 0).shape.Idx) = Finset.univ ∨ ∀ a, (woR 0).stride a = 1} {m₁ : (Finset.univ : Finset (woR 1).shape.Idx) = Finset.univ ∨ ∀ a, (woR 1).stride a = 1}
    {m₂ : (Finset.univ : Finset (woR 2).shape.Idx) = Finset.univ ∨ ∀ a, (woR 2).stride a = 1} {m₃ : (Finset.univ : Finset (woR 3).shape.Idx) = Finset.univ ∨ ∀ a, (woR 3).stride a = 1}
    {k : PROG F α} :
    iprop(owns (c : Thread nD τ) soM fullShare W ∗ (∃ X, owns (c : Thread nD τ) woM fullShare X))
      ⊢ iprop(((owns (c : Thread nD τ) soM fullShare W ∗ owns (c : Thread nD τ) woM fullShare (narrow W)) -∗ WP c k Q)
          -∗ WP c (.op (.load soM (woR 0) a₀) fun v => .op (.load woM (woR 0) b₀) fun _ => .op (.store woM (woR 0) (g₀ v) Finset.univ x₀ m₀) fun _ =>
              .op (.load soM (woR 1) a₁) fun v => .op (.load woM (woR 1) b₁) fun _ => .op (.store woM (woR 1) (g₁ v) Finset.univ x₁ m₁) fun _ =>
              .op (.load soM (woR 2) a₂) fun v => .op (.load woM (woR 2) b₂) fun _ => .op (.store woM (woR 2) (g₂ v) Finset.univ x₂ m₂) fun _ =>
              .op (.load soM (woR 3) a₃) fun v => .op (.load woM (woR 3) b₃) fun _ => .op (.store woM (woR 3) (g₃ v) Finset.univ x₃ m₃) fun _ => k) Q) := by
  iintro ⟨Hs, ⟨%X, Hd⟩⟩ Hk
  ihave Hd := (wo_split c X).1 $$ Hd
  icases Hd with ⟨D0, D1, D2, D3⟩
  iapply (narrow_block c (woR_stride 0) W g₀ hg₀) $$ [Hs D0]
  · isplitl [Hs]; · iexact Hs
    iexists _; iexact D0
  iintro ⟨Hs, D0⟩
  iapply (narrow_block c (woR_stride 1) W g₁ hg₁) $$ [Hs D1]
  · isplitl [Hs]; · iexact Hs
    iexists _; iexact D1
  iintro ⟨Hs, D1⟩
  iapply (narrow_block c (woR_stride 2) W g₂ hg₂) $$ [Hs D2]
  · isplitl [Hs]; · iexact Hs
    iexists _; iexact D2
  iintro ⟨Hs, D2⟩
  iapply (narrow_block c (woR_stride 3) W g₃ hg₃) $$ [Hs D3]
  · isplitl [Hs]; · iexact Hs
    iexists _; iexact D3
  iintro ⟨Hs, D3⟩
  iapply Hk
  isplitl [Hs]; · iexact Hs
  iapply (wo_split c (narrow W)).2
  isplitl [D0]; · iexact D0
  isplitl [D1]; · iexact D1
  isplitl [D2]; · iexact D2
  iexact D3

/-! ## The gathered activation -/

/-- Four blocks as one array. -/
abbrev stack (Y : Fin 4 → Blk F) : S4x64x1024.Idx → Elt F .bf16 := fun i => Y (i 0) (fun a => i a.succ)

/-- A slot of the stack is its block. -/
theorem stack_slot (Y : Fin 4 → Blk F) (j : Fin 4) : (fun i => stack Y ((slotR j).emb i)) = slotCast (Y j) j := by
  fin_cases j <;>
  · funext i
    refine Eq.trans ?_ (shapeCast_addUnit_apply (![64, 1024]) _ shapeCasts_S64x1024_S1x64x1024 i).symm
    show Y _ _ = Y _ _
    have h0 : (i 0).val = 0 := by have := (i 0).isLt; simp at this; omega
    congr 1
    · apply Fin.ext; show _ + 1 * (i 0).val = _; rw [h0]; rfl
    · funext a; apply Fin.ext; show _ + 1 * (i a.succ).val = (i a.succ).val; fin_cases a <;> (show 0 + 1 * _ = _; rw [Nat.zero_add, Nat.one_mul])

/-- The buffer of four owned at the stack, by slots. -/
theorem stack_split (A : Memref sig .tc .vmem S4x64x1024 .bf16) (q : PosShare TreeShare) (Y : Fin 4 → Blk F) :
    (owns (c : Thread nD τ) A q (stack Y) : sProp 𝕄) ⊣⊢ iprop(owns (c : Thread nD τ) (slotOf A 0) q (Y 0) ∗ owns (c : Thread nD τ) (slotOf A 1) q (Y 1)
      ∗ owns (c : Thread nD τ) (slotOf A 2) q (Y 2) ∗ owns (c : Thread nD τ) (slotOf A 3) q (Y 3)) := by
  have hs : (bigSep Finset.univ fun t => owns (c : Thread nD τ) (A.slice (slotR t) (slotR_stride t)) q (fun i => stack Y ((slotR t).emb i)) : sProp 𝕄)
      = bigSep Finset.univ fun t => owns (c : Thread nD τ) (A.slice (slotR t) (slotR_stride t)) q (slotCast (Y t) t) :=
    bigSep_congr fun t _ => by rw [stack_slot]
  rw [sep4 (fun t => owns (c : Thread nD τ) (A.slice (slotR t) (slotR_stride t)) q (slotCast (Y t) t))] at hs
  constructor
  · iintro H
    ihave H := (owns_rects (c : Thread nD τ) A q slotR slotR_stride slotR_disjoint slotR_cover (stack Y)) $$ H
    ihave H := (Entails.of_eq hs) $$ H
    icases H with ⟨H0, H1, H2, H3⟩
    isplitl [H0]; · iapply (owns_slot c A 0 q (Y 0)).2; iexact H0
    isplitl [H1]; · iapply (owns_slot c A 1 q (Y 1)).2; iexact H1
    isplitl [H2]; · iapply (owns_slot c A 2 q (Y 2)).2; iexact H2
    iapply (owns_slot c A 3 q (Y 3)).2; iexact H3
  · iintro ⟨H0, H1, H2, H3⟩
    iapply (owns_of_rects (c : Thread nD τ) A q slotR slotR_stride slotR_disjoint slotR_cover (stack Y))
    iapply (Entails.of_eq hs.symm)
    isplitl [H0]; · iapply (owns_slot c A 0 q (Y 0)).1; iexact H0
    isplitl [H1]; · iapply (owns_slot c A 1 q (Y 1)).1; iexact H1
    isplitl [H2]; · iapply (owns_slot c A 2 q (Y 2)).1; iexact H2
    iapply (owns_slot c A 3 q (Y 3)).1; iexact H3

/-- The share of a quarter taken out of a whole block, and put back. -/
theorem keep_split {s : Shape} {e : EltTy} (m : Memref sig .tc .vmem s e) (X : s.Idx → Elt F e) :
    (owns (c : Thread nD τ) m fullShare X : sProp 𝕄) ⊣⊢ iprop((owns (c : Thread nD τ) m fullShare.left X ∗ owns (c : Thread nD τ) m fullShare.right.left X) ∗ owns (c : Thread nD τ) m qkeep X) := by
  constructor
  · iintro H
    ihave H := (owns_halves (c : Thread nD τ) m fullShare X).1 $$ H
    icases H with ⟨HL, HR⟩
    ihave H := (owns_halves (c : Thread nD τ) m fullShare.right X).1 $$ HR
    icases H with ⟨HRL, HRR⟩
    isplitr [HRR]
    · isplitl [HL]; · iexact HL
      iexact HRL
    iexact HRR
  · iintro ⟨⟨HL, HRL⟩, HRR⟩
    iapply (owns_halves (c : Thread nD τ) m fullShare X).2
    isplitl [HL]; · iexact HL
    iapply (owns_halves (c : Thread nD τ) m fullShare.right X).2
    isplitl [HRL]; · iexact HRL
    iexact HRR

/-- A load of the whole buffer while the sends still read its first slot. -/
theorem load_stack {Q : α → sProp 𝕄} (Y : Fin 4 → Blk F) {inb : ∀ a, (![0, 0, 0] : Fin 3 → ℕ) a + S4x64x1024.size a ≤ S4x64x1024.size a}
    {hl : xgM.view.LoadsAt (Rect.unit (s := S4x64x1024) ![0, 0, 0] S4x64x1024.size inb)} {k : (S4x64x1024.Idx → Elt F .bf16) → PROG F α} :
    iprop(owns (c : Thread nD τ) (slotOf xgM 0) qkeep (Y 0) ∗ owns (c : Thread nD τ) (slotOf xgM 1) fullShare (Y 1)
        ∗ owns (c : Thread nD τ) (slotOf xgM 2) fullShare (Y 2) ∗ owns (c : Thread nD τ) (slotOf xgM 3) fullShare (Y 3))
      ⊢ iprop(((owns (c : Thread nD τ) (slotOf xgM 0) qkeep (Y 0) ∗ owns (c : Thread nD τ) (slotOf xgM 1) fullShare (Y 1)
        ∗ owns (c : Thread nD τ) (slotOf xgM 2) fullShare (Y 2) ∗ owns (c : Thread nD τ) (slotOf xgM 3) fullShare (Y 3)) -∗ WP c (k (stack Y)) Q)
          -∗ WP c (.op (.load xgM (Rect.unit (s := S4x64x1024) ![0, 0, 0] S4x64x1024.size inb) hl) k) Q) := by
  iintro ⟨H0, H1, H2, H3⟩ Hk
  ihave H1 := (keep_split c (slotOf xgM 1) (Y 1)).1 $$ H1
  ihave H2 := (keep_split c (slotOf xgM 2) (Y 2)).1 $$ H2
  ihave H3 := (keep_split c (slotOf xgM 3) (Y 3)).1 $$ H3
  icases H1 with ⟨R1, H1⟩
  icases H2 with ⟨R2, H2⟩
  icases H3 with ⟨R3, H3⟩
  iapply (load_all c (m := xgM) (q := qkeep) (stack Y)) $$ [H0 H1 H2 H3]
  · iapply (stack_split c xgM qkeep Y).2
    isplitl [H0]; · iexact H0
    isplitl [H1]; · iexact H1
    isplitl [H2]; · iexact H2
    iexact H3
  iintro H
  ihave H := (stack_split c xgM qkeep Y).1 $$ H
  icases H with ⟨H0, H1, H2, H3⟩
  iapply Hk
  isplitl [H0]; · iexact H0
  isplitl [H1 R1]; · iapply (keep_split c (slotOf xgM 1) (Y 1)).2; isplitl [R1]; · iexact R1
                     iexact H1
  isplitl [H2 R2]; · iapply (keep_split c (slotOf xgM 2) (Y 2)).2; isplitl [R2]; · iexact R2
                     iexact H2
  iapply (keep_split c (slotOf xgM 3) (Y 3)).2
  isplitl [R3]; · iexact R3
  iexact H3

/-! ## The partial product -/

/-- Block row `t` of a partial product. -/
abbrev rowAt (w : S256x1024.Idx → Elt F .bf16) (t : Fin 4) : Blk F := fun j =>
  w (fun a => match a with
    | ⟨0, _⟩ => (⟨t.val * 64 + (j 0).val, by have h : (j 0).val < 64 := (j 0).isLt; have := t.isLt; show _ < 256; omega⟩ : Fin 256)
    | ⟨1, _⟩ => j 1)

/-- Row `a` of block row `t` is row `64 t + a`. -/
theorem pm_emb (t : Fin 4) (i : S256x1024.Idx) (j : S64x1024.Idx) (h0 : (i 0).val = t.val * 64 + (j 0).val) (h1 : (i 1).val = (j 1).val)
    (w : S256x1024.Idx → Elt F .bf16) : w i = rowAt w t j := by
  refine congrArg w (funext fun a => ?_)
  fin_cases a
  · exact Fin.ext h0
  · exact Fin.ext h1

/-- The partial product owned, by block rows. -/
theorem pm_split (w : S256x1024.Idx → Elt F .bf16) :
    (owns (c : Thread nD τ) pmM fullShare w : sProp 𝕄) ⊣⊢ iprop(owns (c : Thread nD τ) (rowsOf 0) fullShare (rowAt w 0) ∗ owns (c : Thread nD τ) (rowsOf 1) fullShare (rowAt w 1)
      ∗ owns (c : Thread nD τ) (rowsOf 2) fullShare (rowAt w 2) ∗ owns (c : Thread nD τ) (rowsOf 3) fullShare (rowAt w 3)) := by
  have e0 : (fun j : S64x1024.Idx => w ((pmR 0).emb j)) = rowAt w 0 := funext fun j => pm_emb 0 _ j (by show 0 + 1 * _ = 0 * 64 + _; omega) (by show 0 + 1 * _ = _; omega) w
  have e1 : (fun j : S64x1024.Idx => w ((pmR 1).emb j)) = rowAt w 1 := funext fun j => pm_emb 1 _ j (by show 64 + 1 * _ = 1 * 64 + _; omega) (by show 0 + 1 * _ = _; omega) w
  have e2 : (fun j : S64x1024.Idx => w ((pmR 2).emb j)) = rowAt w 2 := funext fun j => pm_emb 2 _ j (by show 128 + 1 * _ = 2 * 64 + _; omega) (by show 0 + 1 * _ = _; omega) w
  have e3 : (fun j : S64x1024.Idx => w ((pmR 3).emb j)) = rowAt w 3 := funext fun j => pm_emb 3 _ j (by show 192 + 1 * _ = 3 * 64 + _; omega) (by show 0 + 1 * _ = _; omega) w
  have h := sep4 (fun t => (owns (c : Thread nD τ) (pmM.slice (pmR t) (pmR_stride t)) fullShare (fun j => w ((pmR t).emb j)) : sProp 𝕄))
  rw [← e0, ← e1, ← e2, ← e3]
  exact ⟨(owns_rects (c : Thread nD τ) pmM fullShare pmR pmR_stride pmR_disjoint pmR_cover w).trans (Entails.of_eq h),
    (Entails.of_eq h.symm).trans (owns_of_rects (c : Thread nD τ) pmM fullShare pmR pmR_stride pmR_disjoint pmR_cover w)⟩

/-- Four block rows as one array. -/
abbrev unrow (Y : Fin 4 → Blk F) : S256x1024.Idx → Elt F .bf16 := fun i =>
  Y ⟨(i 0).val / 64, by have h : (i 0).val < 256 := (i 0).isLt; omega⟩ (fun a => match a with
    | ⟨0, _⟩ => (⟨(i 0).val % 64, Nat.mod_lt _ (by decide)⟩ : Fin 64)
    | ⟨1, _⟩ => i 1)

theorem rowAt_unrow (Y : Fin 4 → Blk F) (t : Fin 4) : rowAt (unrow Y) t = Y t := by
  funext j
  have hj : (j 0).val < 64 := (j 0).isLt
  show Y _ _ = Y t j
  congr 1
  · apply Fin.ext; show (t.val * 64 + (j 0).val) / 64 = t.val; omega
  · funext a; fin_cases a
    · apply Fin.ext; show (t.val * 64 + (j 0).val) % 64 = (j 0).val; omega
    · rfl

/-- The block rows held at anything are the partial product held at something. -/
theorem pm_join :
    iprop(anyBlk c (rowsOf 0) ∗ anyBlk c (rowsOf 1) ∗ anyBlk c (rowsOf 2) ∗ anyBlk c (rowsOf 3)) ⊢ (iprop(∃ X, owns (c : Thread nD τ) pmM fullShare X) : sProp 𝕄) := by
  unfold anyBlk
  iintro ⟨⟨%Y0, H0⟩, ⟨%Y1, H1⟩, ⟨%Y2, H2⟩, ⟨%Y3, H3⟩⟩
  iexists unrow (fun t => match t with | 0 => Y0 | 1 => Y1 | 2 => Y2 | 3 => Y3)
  iapply (pm_split c _).2
  rw [rowAt_unrow, rowAt_unrow, rowAt_unrow, rowAt_unrow]
  isplitl [H0]; · iexact H0
  isplitl [H1]; · iexact H1
  isplitl [H2]; · iexact H2
  iexact H3

/-- The partial product's write, its block rows then ready to go. -/
theorem store_pm {Q : α → sProp 𝕄} {w : S256x1024.Idx → Elt F .bf16} {inb : ∀ a, (![0, 0] : Fin 2 → ℕ) a + S256x1024.size a ≤ S256x1024.size a}
    {hl : pmM.view.LoadsAt (Rect.unit (s := S256x1024) ![0, 0] S256x1024.size inb)}
    {hx : (pmM.access (Rect.unit (s := S256x1024) ![0, 0] S256x1024.size inb)).Stores Finset.univ}
    {hm : (Finset.univ : Finset S256x1024.Idx) = Finset.univ ∨ ∀ a, (Rect.unit (s := S256x1024) ![0, 0] S256x1024.size inb).stride a = 1}
    {k : PROG F α} :
    iprop(anyBlk c (rowsOf 0) ∗ anyBlk c (rowsOf 1) ∗ anyBlk c (rowsOf 2) ∗ anyBlk c (rowsOf 3))
      ⊢ iprop(((owns (c : Thread nD τ) (rowsOf 0) fullShare (rowAt w 0) ∗ all3 (fun i => owns (c : Thread nD τ) (rowsOf i.succ) fullShare (rowAt w i.succ))) -∗ WP c k Q)
          -∗ WP c (.op (.load pmM (Rect.unit (s := S256x1024) ![0, 0] S256x1024.size inb) hl) fun _ =>
              .op (.store pmM (Rect.unit (s := S256x1024) ![0, 0] S256x1024.size inb) w Finset.univ hx hm) fun _ => k) Q) := by
  iintro H Hk
  ihave H := (pm_join c) $$ H
  icases H with ⟨%X, H⟩
  iapply (load_all c X) $$ H
  iintro H
  iapply (store_all c (w := w)) $$ [H]
  · iexists X; iexact H
  iintro H
  ihave H := (pm_split c w).1 $$ H
  icases H with ⟨H0, H1, H2, H3⟩
  iapply Hk
  isplitl [H0]; · iexact H0
  isplitl [H1]; · iexact H1
  isplitl [H2]; · iexact H2
  iexact H3

end Cert.KernelIdeal.Mesh

end
-- ==== Proof.Layers.lean ====
/-
# The stretches of a layer

What the three layers of the kernel have in common: the sends with the narrowing of the weights, the arrivals with the
reads of the operands, and the scatter of the product with the reads of what arrives.
-/
module

public import proofs.«01_k».proof.Proof.Weights

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Vals F) (K : Dev nD × CK → ℕ) (c : Dev nD) {α : Type}

/-! ## Passing buffers on -/

/-- The two duties a send to peer `i` pays. -/
abbrev toks (a b : Fin 4) (l : ℕ) (i : Fin 3) : sProp 𝕄 := iprop(dutyTok ER (ch c a i) l 0 ∗ dutyTok ER (ch (peer c i) b i.rev) l 0)
/-- Round `l` of channel `a` has come. -/
abbrev come (a : Fin 4) (l : ℕ) : sProp 𝕄 := all3 (fun i => reached ER (ch c a i) l)

theorem sendTok_intro (a b : Fin 4) (l : ℕ) : iprop(all3 (toks (F := F) c a b l) ∗ come c a l) ⊢ all3 (sendTok (F := F) c a b l) := by
  unfold sendTok
  iintro ⟨⟨⟨T0, U0⟩, ⟨T1, U1⟩, ⟨T2, U2⟩⟩, ⟨R0, R1, R2⟩⟩
  isplitl [T0 U0 R0]
  · isplitl [T0]; · iexact T0
    isplitl [R0]; · iexact R0
    iexact U0
  isplitl [T1 U1 R1]
  · isplitl [T1]; · iexact T1
    isplitl [R1]; · iexact R1
    iexact U1
  isplitl [T2]; · iexact T2
  isplitl [R2]; · iexact R2
  iexact U2

/-- A slot of the scatter read, given back to peer `i` with the next gather; -/
theorem give_pg (i : Fin 3) (l : ℕ) (hl : l ≠ 0) :
    iprop(anyBlk c (slotOf pgM i.succ) ∗ reached ER (ch c 3 i) l) ⊢ (agRide (peer c i) i.rev l : sProp 𝕄) := by
  unfold agRide pDoor; rw [if_neg hl, peer_rev, Fin.rev_rev]
/-- a slot of the gather read, with the scatter. -/
theorem give_xg (i : Fin 3) (l : ℕ) (hl : l < 2) (Y : Blk F) :
    iprop(owns (c : Thread nD τ) (slotOf xgM i.succ) fullShare Y ∗ reached ER (ch c 1 i) (l + 1)) ⊢ (rsRide (peer c i) i.rev l : sProp 𝕄) := by
  unfold rsRide xDoor anyBlk; rw [if_pos hl, peer_rev, Fin.rev_rev]
  iintro ⟨H, R⟩
  isplitl [H]; · iexists Y; iexact H
  iexact R

/-! ## The sends, and the narrowing of the weights -/

/-- The gather's sends; the weights awaited and narrowed. -/
theorem front {Q : α → sProp 𝕄} (l : ℕ) (hl : l < 3) (ps : List Pay) (hps : ∀ p ∈ ps, 0 < p.lev ∧ p.rnd < 3)
    (n₁ n₀ n₂ : Dev nD) (h₁ : n₁ = peer c 1) (h₀ : n₀ = peer c 0) (h₂ : n₂ = peer c 2)
    {A : Memref sig .tc .hbm S1024x2048 .f32} {B : Memref sig .tc .hbm S2048x1024 .f32} {sa sb : DmaSem sig}
    (hsa : ck? ((c : Thread nD τ), .dma sa) = none) (hsb : ck? ((c : Thread nD τ), .dma sb) = none)
    (WI : FVec F S1024x2048 .f32) (WO : FVec F S2048x1024 .f32)
    (g₀ g₁ : FVec F S512x2048 .f32 → FVec F S512x2048 .bf16) (o₀ o₁ o₂ o₃ : FVec F S512x1024 .f32 → FVec F S512x1024 .bf16)
    (hg₀ : ∀ v, g₀ v = narrow v) (hg₁ : ∀ v, g₁ v = narrow v)
    (ho₀ : ∀ v, o₀ v = narrow v) (ho₁ : ∀ v, o₁ v = narrow v) (ho₂ : ∀ v, o₂ v = narrow v) (ho₃ : ∀ v, o₃ v = narrow v)
    {k : PROG F α}
    {sc₁ : (slotOf xgM 2).view.ref.isScScratch = false} {sc₀ : (slotOf xgM 3).view.ref.isScScratch = false} {sc₂ : (slotOf xgM 1).view.ref.isScScratch = false}
    {x₁ x₀ x₂ : (slotOf xgM 0).view.WordExact} {d₁ : (slotOf xgM 2).view.WordExact} {d₀ : (slotOf xgM 3).view.WordExact} {d₂ : (slotOf xgM 1).view.WordExact}
    {t₁ : DmaTarget.Typed .vmem (.dma (chSem 1 1)) (.remote (n₁ : Thread nD τ) (slotOf xgM 2) (.dma (chSem 0 1)) sc₁)}
    {t₀ : DmaTarget.Typed .vmem (.dma (chSem 1 2)) (.remote (n₀ : Thread nD τ) (slotOf xgM 3) (.dma (chSem 0 0)) sc₀)}
    {t₂ : DmaTarget.Typed .vmem (.dma (chSem 1 0)) (.remote (n₂ : Thread nD τ) (slotOf xgM 1) (.dma (chSem 0 2)) sc₂)}
    {wa : A.view.WordExact} {wb : B.view.WordExact} {wsi : siM.view.WordExact} {wso : soM.view.WordExact}
    {ia₀ : siM.view.LoadsAt (wiR 0)} {ia₁ : siM.view.LoadsAt (wiR 1)} {ib₀ : wiM.view.LoadsAt (wiR 0)} {ib₁ : wiM.view.LoadsAt (wiR 1)}
    {ix₀ : (wiM.access (wiR 0)).Stores Finset.univ} {ix₁ : (wiM.access (wiR 1)).Stores Finset.univ}
    {im₀ : (Finset.univ : Finset (wiR 0).shape.Idx) = Finset.univ ∨ ∀ a, (wiR 0).stride a = 1} {im₁ : (Finset.univ : Finset (wiR 1).shape.Idx) = Finset.univ ∨ ∀ a, (wiR 1).stride a = 1}
    {a₀ : soM.view.LoadsAt (woR 0)} {a₁ : soM.view.LoadsAt (woR 1)} {a₂ : soM.view.LoadsAt (woR 2)} {a₃ : soM.view.LoadsAt (woR 3)}
    {b₀ : woM.view.LoadsAt (woR 0)} {b₁ : woM.view.LoadsAt (woR 1)} {b₂ : woM.view.LoadsAt (woR 2)} {b₃ : woM.view.LoadsAt (woR 3)}
    {y₀ : (woM.access (woR 0)).Stores Finset.univ} {y₁ : (woM.access (woR 1)).Stores Finset.univ}
    {y₂ : (woM.access (woR 2)).Stores Finset.univ} {y₃ : (woM.access (woR 3)).Stores Finset.univ}
    {m₀ : (Finset.univ : Finset (woR 0).shape.Idx) = Finset.univ ∨ ∀ a, (woR 0).stride a = 1} {m₁ : (Finset.univ : Finset (woR 1).shape.Idx) = Finset.univ ∨ ∀ a, (woR 1).stride a = 1}
    {m₂ : (Finset.univ : Finset (woR 2).shape.Idx) = Finset.univ ∨ ∀ a, (woR 2).stride a = 1} {m₃ : (Finset.univ : Finset (woR 3).shape.Idx) = Finset.univ ∨ ∀ a, (woR 3).stride a = 1} :
    iprop(env V K ∗ owns (c : Thread nD τ) (slotOf xgM 0) fullShare (V.X l c) ∗ all3 (fun i => xDoor c i l) ∗ all3 (fun i => agRide (peer c i) i.rev l)
        ∗ all3 (toks c 0 1 l) ∗ come c 0 l ∗ ow c (.ag l 1 :: .ag l 0 :: .ag l 2 :: ps)
        ∗ fetching c sa A siM WI ∗ fetching c sb B soM WO ∗ (∃ X, owns (c : Thread nD τ) wiM fullShare X) ∗ (∃ X, owns (c : Thread nD τ) woM fullShare X))
      ⊢ iprop(((owns (c : Thread nD τ) (slotOf xgM 0) qkeep (V.X l c) ∗ all3 (fun i => cred (tallyAt (ch c 0 i) 0 N)) ∗ ow c ps
            ∗ (owns (c : Thread nD τ) siM fullShare WI ∗ owns (c : Thread nD τ) A fullShare WI ∗ semVal ((c : Thread nD τ), .dma sa) 0)
            ∗ (owns (c : Thread nD τ) soM fullShare WO ∗ owns (c : Thread nD τ) B fullShare WO ∗ semVal ((c : Thread nD τ), .dma sb) 0)
            ∗ owns (c : Thread nD τ) wiM fullShare (narrow WI) ∗ owns (c : Thread nD τ) woM fullShare (narrow WO)) -∗ WP c k Q)
          -∗ WP c (.op (.enqueueDma (slotOf xgM 0) (.remote (n₁ : Thread nD τ) (slotOf xgM 2) (.dma (chSem 0 1)) sc₁) (.dma (chSem 1 1)) x₁ d₁ t₁) fun _ =>
              .op (.enqueueDma (slotOf xgM 0) (.remote (n₀ : Thread nD τ) (slotOf xgM 3) (.dma (chSem 0 0)) sc₀) (.dma (chSem 1 2)) x₀ d₀ t₀) fun _ =>
              .op (.enqueueDma (slotOf xgM 0) (.remote (n₂ : Thread nD τ) (slotOf xgM 1) (.dma (chSem 0 2)) sc₂) (.dma (chSem 1 0)) x₂ d₂ t₂) fun _ =>
              .op (.waitDma2 sa A siM wa wsi) fun _ => .op (.waitDma2 sb B soM wb wso) fun _ =>
              .op (.load siM (wiR 0) ia₀) fun v => .op (.load wiM (wiR 0) ib₀) fun _ => .op (.store wiM (wiR 0) (g₀ v) Finset.univ ix₀ im₀) fun _ =>
              .op (.load siM (wiR 1) ia₁) fun v => .op (.load wiM (wiR 1) ib₁) fun _ => .op (.store wiM (wiR 1) (g₁ v) Finset.univ ix₁ im₁) fun _ =>
              .op (.load soM (woR 0) a₀) fun v => .op (.load woM (woR 0) b₀) fun _ => .op (.store woM (woR 0) (o₀ v) Finset.univ y₀ m₀) fun _ =>
              .op (.load soM (woR 1) a₁) fun v => .op (.load woM (woR 1) b₁) fun _ => .op (.store woM (woR 1) (o₁ v) Finset.univ y₁ m₁) fun _ =>
              .op (.load soM (woR 2) a₂) fun v => .op (.load woM (woR 2) b₂) fun _ => .op (.store woM (woR 2) (o₂ v) Finset.univ y₂ m₂) fun _ =>
              .op (.load soM (woR 3) a₃) fun v => .op (.load woM (woR 3) b₃) fun _ => .op (.store woM (woR 3) (o₃ v) Finset.univ y₃ m₃) fun _ => k) Q) := by
  iintro ⟨#He, Hx, HD, HA, HT, HR, HO, FI, FO, HI, HW⟩ Hk
  ihave HT := (sendTok_intro c 0 1 l) $$ [HT HR]
  · isplitl [HT]; · iexact HT
    iexact HR
  iapply (agSend V K c l hl ps n₁ n₀ n₂ h₁ h₀ h₂) $$ [Hx HD HA HT HO]
  · isplitr; · iexact He
    isplitl [Hx]; · iexact Hx
    isplitl [HD]; · iexact HD
    isplitl [HA]; · iexact HA
    isplitl [HT]; · iexact HT
    iexact HO
  iintro ⟨Hx, HC, HO⟩
  iapply (fetched V K c WI hsa ps hps) $$ [FI HO]
  · isplitr; · iexact He
    isplitl [FI]; · iexact FI
    iexact HO
  iintro ⟨SI, HA, VA, HO⟩
  iapply (fetched V K c WO hsb ps hps) $$ [FO HO]
  · isplitr; · iexact He
    isplitl [FO]; · iexact FO
    iexact HO
  iintro ⟨SO, HB, VB, HO⟩
  iapply (narrow_wi c WI g₀ g₁ hg₀ hg₁) $$ [SI HI]
  · isplitl [SI]; · iexact SI
    iexact HI
  iintro ⟨SI, HI⟩
  iapply (narrow_wo c WO o₀ o₁ o₂ o₃ ho₀ ho₁ ho₂ ho₃) $$ [SO HW]
  · isplitl [SO]; · iexact SO
    iexact HW
  iintro ⟨SO, HW⟩
  iapply Hk
  isplitl [Hx]; · iexact Hx
  isplitl [HC]; · iexact HC
  isplitl [HO]; · iexact HO
  isplitl [SI HA VA]
  · isplitl [SI]; · iexact SI
    isplitl [HA]; · iexact HA
    iexact VA
  isplitl [SO HB VB]
  · isplitl [SO]; · iexact SO
    isplitl [HB]; · iexact HB
    iexact VB
  isplitl [HI]; · iexact HI
  iexact HW

/-! ## The arrivals, and the operands -/

/-- Device `c` and its peers, by slot. -/
def turn (c : Dev nD) (s : Fin 4) : Dev nD := ⟨(c.val + s.val) % 4, Nat.mod_lt _ (by decide)⟩
theorem turn_zero (c : Dev nD) : turn c 0 = c := by revert c; decide
theorem turn_succ (c : Dev nD) (i : Fin 3) : turn c i.succ = peer c i := by revert c i; decide

/-- The activations as device `c` holds them side by side. -/
abbrev xAll (l : ℕ) : S4x64x1024.Idx → Elt F .bf16 := stack fun s => V.X l (turn c s)

/-- The gather's arrivals, and the reads of the operands. -/
theorem middle {Q : α → sProp 𝕄} (l : ℕ) (hl : l < 3) (ps : List Pay) (hps : ∀ p ∈ ps, 2 + 2 * l < p.lev ∧ p.rnd < 3)
    (wi : FVec F S1024x2048 .bf16) (wo : FVec F S2048x1024 .bf16)
    {k : (S4x64x1024.Idx → Elt F .bf16) → (S1024x2048.Idx → Elt F .bf16) → (S2048x1024.Idx → Elt F .bf16) → PROG F α}
    {s₀ s₁ s₂ d₀ d₁ d₂ : Memref sig .tc .vmem S64x1024 .bf16} {x₀ : s₀.view.WordExact} {x₁ : s₁.view.WordExact} {x₂ : s₂.view.WordExact}
    {y₀ : d₀.view.WordExact} {y₁ : d₁.view.WordExact} {y₂ : d₂.view.WordExact}
    (h₀ : d₀.view.dmaCredit = N) (h₁ : d₁.view.dmaCredit = N) (h₂ : d₂.view.dmaCredit = N)
    {inb₁ : ∀ a, (![0, 0, 0] : Fin 3 → ℕ) a + S4x64x1024.size a ≤ S4x64x1024.size a} {hl₁ : xgM.view.LoadsAt (Rect.unit (s := S4x64x1024) ![0, 0, 0] S4x64x1024.size inb₁)}
    {inb₂ : ∀ a, (![0, 0] : Fin 2 → ℕ) a + S1024x2048.size a ≤ S1024x2048.size a} {hl₂ : wiM.view.LoadsAt (Rect.unit (s := S1024x2048) ![0, 0] S1024x2048.size inb₂)}
    {inb₃ : ∀ a, (![0, 0] : Fin 2 → ℕ) a + S2048x1024.size a ≤ S2048x1024.size a} {hl₃ : woM.view.LoadsAt (Rect.unit (s := S2048x1024) ![0, 0] S2048x1024.size inb₃)} :
    iprop(env V K ∗ waits3 c 1 l l ∗ ow c ps ∗ owns (c : Thread nD τ) (slotOf xgM 0) qkeep (V.X l c)
        ∗ owns (c : Thread nD τ) wiM fullShare wi ∗ owns (c : Thread nD τ) woM fullShare wo)
      ⊢ iprop(((owns (c : Thread nD τ) (slotOf xgM 0) qkeep (V.X l c) ∗ all3 (fun i => owns (c : Thread nD τ) (slotOf xgM i.succ) fullShare (V.X l (peer c i)))
            ∗ all3 (fun i => agRide c i l) ∗ past3 c 1 (l + 1) ∗ ow c ps
            ∗ owns (c : Thread nD τ) wiM fullShare wi ∗ owns (c : Thread nD τ) woM fullShare wo) -∗ WP c (k (xAll V c l) wi wo) Q)
          -∗ WP c (.op (.waitDma2 (chSem 1 0) s₀ d₀ x₀ y₀) fun _ => .op (.waitDma2 (chSem 1 2) s₂ d₂ x₂ y₂) fun _ =>
              .op (.waitDma2 (chSem 1 1) s₁ d₁ x₁ y₁) fun _ =>
              .op (.load xgM (Rect.unit (s := S4x64x1024) ![0, 0, 0] S4x64x1024.size inb₁) hl₁) fun v =>
              .op (.load wiM (Rect.unit (s := S1024x2048) ![0, 0] S1024x2048.size inb₂) hl₂) fun w =>
              .op (.load woM (Rect.unit (s := S2048x1024) ![0, 0] S2048x1024.size inb₃) hl₃) fun w' => k v w w') Q) := by
  iintro ⟨#He, HW, HO, Hx, HI, HU⟩ Hk
  iapply (agRecv V K c l hl ps hps h₀ h₁ h₂) $$ [HW HO]
  · isplitr; · iexact He
    isplitl [HW]; · iexact HW
    iexact HO
  iintro ⟨⟨⟨X0, A0⟩, ⟨X1, A1⟩, ⟨X2, A2⟩⟩, HP, HO⟩
  have e0 : V.X l c = V.X l (turn c 0) := by rw [turn_zero]
  have e1 : V.X l (peer c 0) = V.X l (turn c 1) := by rw [← turn_succ]; rfl
  have e2 : V.X l (peer c 1) = V.X l (turn c 2) := by rw [← turn_succ]; rfl
  have e3 : V.X l (peer c 2) = V.X l (turn c 3) := by rw [← turn_succ]; rfl
  rw [e0, e1, e2, e3]
  iapply (load_stack c (fun s => V.X l (turn c s))) $$ [Hx X0 X1 X2]
  · isplitl [Hx]; · iexact Hx
    isplitl [X0]; · iexact X0
    isplitl [X1]; · iexact X1
    iexact X2
  iintro ⟨Hx, X0, X1, X2⟩
  iapply (load_all c wi) $$ HI
  iintro HI
  iapply (load_all c wo) $$ HU
  iintro HU
  iapply Hk
  isplitl [Hx]; · iexact Hx
  isplitl [X0 X1 X2]
  · isplitl [X0]; · iexact X0
    isplitl [X1]; · iexact X1
    iexact X2
  isplitl [A0 A1 A2]
  · isplitl [A0]; · iexact A0
    isplitl [A1]; · iexact A1
    iexact A2
  isplitl [HP]; · iexact HP
  isplitl [HO]; · iexact HO
  isplitl [HI]; · iexact HI
  iexact HU

/-! ## The scatter -/

/-- The partial product written and scattered; the peers' blocks read. -/
theorem back {Q : α → sProp 𝕄} (l : ℕ) (hl : l < 3) (ps : List Pay) (hps : ∀ p ∈ ps, 3 + 2 * l < p.lev ∧ p.rnd < 3)
    (n₁ n₀ n₂ : Dev nD) (h₁ : n₁ = peer c 1) (h₀ : n₀ = peer c 0) (h₂ : n₂ = peer c 2)
    {w : S256x1024.Idx → Elt F .bf16} (hw : ∀ t, rowAt w t = V.P l c t)
    {k : (S1x64x1024.Idx → Elt F .bf16) → (S1x64x1024.Idx → Elt F .bf16) → (S1x64x1024.Idx → Elt F .bf16) → PROG F α}
    {inb : ∀ a, (![0, 0] : Fin 2 → ℕ) a + S256x1024.size a ≤ S256x1024.size a}
    {hlp : pmM.view.LoadsAt (Rect.unit (s := S256x1024) ![0, 0] S256x1024.size inb)}
    {hx : (pmM.access (Rect.unit (s := S256x1024) ![0, 0] S256x1024.size inb)).Stores Finset.univ}
    {hm : (Finset.univ : Finset S256x1024.Idx) = Finset.univ ∨ ∀ a, (Rect.unit (s := S256x1024) ![0, 0] S256x1024.size inb).stride a = 1}
    {sc₁ : (slotOf pgM 2).view.ref.isScScratch = false} {sc₀ : (slotOf pgM 3).view.ref.isScScratch = false} {sc₂ : (slotOf pgM 1).view.ref.isScScratch = false}
    {x₁ : (rowsOf 2).view.WordExact} {x₀ : (rowsOf 1).view.WordExact} {x₂ : (rowsOf 3).view.WordExact}
    {d₁ : (slotOf pgM 2).view.WordExact} {d₀ : (slotOf pgM 3).view.WordExact} {d₂ : (slotOf pgM 1).view.WordExact}
    {t₁ : DmaTarget.Typed .vmem (.dma (chSem 3 1)) (.remote (n₁ : Thread nD τ) (slotOf pgM 2) (.dma (chSem 2 1)) sc₁)}
    {t₀ : DmaTarget.Typed .vmem (.dma (chSem 3 2)) (.remote (n₀ : Thread nD τ) (slotOf pgM 3) (.dma (chSem 2 0)) sc₀)}
    {t₂ : DmaTarget.Typed .vmem (.dma (chSem 3 0)) (.remote (n₂ : Thread nD τ) (slotOf pgM 1) (.dma (chSem 2 2)) sc₂)}
    {s₀ s₁ s₂ e₀ e₁ e₂ : Memref sig .tc .vmem S64x1024 .bf16} {z₀ : s₀.view.WordExact} {z₁ : s₁.view.WordExact} {z₂ : s₂.view.WordExact}
    {y₀ : e₀.view.WordExact} {y₁ : e₁.view.WordExact} {y₂ : e₂.view.WordExact}
    {l₃ : pgM.view.LoadsAt (slotR 3)} {l₁ : pgM.view.LoadsAt (slotR 1)} {l₂ : pgM.view.LoadsAt (slotR 2)}
    (k₀ : e₀.view.dmaCredit = N) (k₁ : e₁.view.dmaCredit = N) (k₂ : e₂.view.dmaCredit = N) :
    iprop(env V K ∗ (anyBlk c (rowsOf 0) ∗ anyBlk c (rowsOf 1) ∗ anyBlk c (rowsOf 2) ∗ anyBlk c (rowsOf 3))
        ∗ all3 (fun i => pDoor c i l) ∗ all3 (fun i => rsRide (peer c i) i.rev l) ∗ all3 (toks c 2 3 l) ∗ come c 2 l ∗ waits3 c 3 l l
        ∗ ow c (.rs l 1 :: .rs l 0 :: .rs l 2 :: ps))
      ⊢ iprop(((anyBlk c (rowsOf 0) ∗ all3 (fun i => cred (tallyAt (ch c 2 i) 0 N)) ∗ all3 (fun i => anyBlk c (slotOf pgM i.succ)) ∗ all3 (fun i => rsRide c i l)
            ∗ past3 c 3 (l + 1) ∗ ow c ps) -∗ WP c (k (arrived V c l 2) (arrived V c l 0) (arrived V c l 1)) Q)
          -∗ WP c (.op (.load pmM (Rect.unit (s := S256x1024) ![0, 0] S256x1024.size inb) hlp) fun _ =>
              .op (.store pmM (Rect.unit (s := S256x1024) ![0, 0] S256x1024.size inb) w Finset.univ hx hm) fun _ =>
              .op (.enqueueDma (rowsOf 2) (.remote (n₁ : Thread nD τ) (slotOf pgM 2) (.dma (chSem 2 1)) sc₁) (.dma (chSem 3 1)) x₁ d₁ t₁) fun _ =>
              .op (.enqueueDma (rowsOf 1) (.remote (n₀ : Thread nD τ) (slotOf pgM 3) (.dma (chSem 2 0)) sc₀) (.dma (chSem 3 2)) x₀ d₀ t₀) fun _ =>
              .op (.enqueueDma (rowsOf 3) (.remote (n₂ : Thread nD τ) (slotOf pgM 1) (.dma (chSem 2 2)) sc₂) (.dma (chSem 3 0)) x₂ d₂ t₂) fun _ =>
              .op (.waitDma2 (chSem 3 2) s₂ e₂ z₂ y₂) fun _ => .op (.load pgM (slotR 3) l₃) fun v₃ =>
              .op (.waitDma2 (chSem 3 0) s₀ e₀ z₀ y₀) fun _ => .op (.load pgM (slotR 1) l₁) fun v₁ =>
              .op (.waitDma2 (chSem 3 1) s₁ e₁ z₁ y₁) fun _ => .op (.load pgM (slotR 2) l₂) fun v₂ => k v₃ v₁ v₂) Q) := by
  iintro ⟨#He, HM, HD, HR, HT, HC, HW, HO⟩ Hk
  ihave HT := (sendTok_intro c 2 3 l) $$ [HT HC]
  · isplitl [HT]; · iexact HT
    iexact HC
  iapply (store_pm c) $$ HM
  iintro ⟨M0, M⟩
  ihave M := (Entails.of_eq (show (all3 (fun i => owns (c : Thread nD τ) (rowsOf i.succ) fullShare (rowAt w i.succ)) : sProp 𝕄)
    = all3 (fun i => owns (c : Thread nD τ) (rowsOf i.succ) fullShare (V.P l c i.succ)) by simp only [hw])) $$ M
  iapply (rsSend V K c l hl ps n₁ n₀ n₂ h₁ h₀ h₂) $$ [M HD HR HT HO]
  · isplitr; · iexact He
    isplitl [M]; · iexact M
    isplitl [HD]; · iexact HD
    isplitl [HR]; · iexact HR
    isplitl [HT]; · iexact HT
    iexact HO
  iintro ⟨HC, HO⟩
  iapply (rsRecv V K c l hl ps hps k₀ k₁ k₂) $$ [HW HO]
  · isplitr; · iexact He
    isplitl [HW]; · iexact HW
    iexact HO
  iintro ⟨⟨⟨G0, R0⟩, ⟨G1, R1⟩, ⟨G2, R2⟩⟩, HP, HO⟩
  iapply Hk
  isplitl [M0]; · unfold anyBlk; iexists _; iexact M0
  isplitl [HC]; · iexact HC
  isplitl [G0 G1 G2]
  · isplitl [G0]; · iexact G0
    isplitl [G1]; · iexact G1
    iexact G2
  isplitl [R0 R1 R2]
  · isplitl [R0]; · iexact R0
    isplitl [R1]; · iexact R1
    iexact R2
  isplitl [HP]; · iexact HP
  iexact HO

end Cert.KernelIdeal.Mesh

end
-- ==== Proof.Body.lean ====
/-
# A device's run of the kernel
-/
module

public import proofs.«01_k».proof.Proof.Layers

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Vals F) (K : Dev nD × CK → ℕ) (c : Dev nD) {α : Type}

/-! ## Values -/

/-- The arguments, device by device: the block of the activation, and each layer's two blocks of weights. -/
structure Ins (F : FTy → Type) where
  x : Dev nD → S64x1024.Idx → Elt F .f32
  wi : ℕ → Dev nD → S1024x2048.Idx → Elt F .f32
  wo : ℕ → Dev nD → S2048x1024.Idx → Elt F .f32

section Step
variable (X : Dev nD → Blk F) (wi : Dev nD → FVec F S1024x2048 .bf16) (wo : Dev nD → FVec F S2048x1024 .bf16) (d : Dev nD)

/-- The blocks device `d` has gathered. -/
abbrev gathered : S4x64x1024.Idx → Elt F .bf16 := stack fun s => X (turn d s)
/-- Block row `t` of its partial product. -/
def part (t : Fin 4) : Blk F := rowAt (k0_pay11 (gathered X d) (wi d) (wo d)) t
/-- The block it gets from peer `i`. -/
abbrev got (i : Fin 3) : S1x64x1024.Idx → Elt F .bf16 := shapeCast S1x64x1024 (part X wi wo (peer d i) i.rev.succ) shapeCasts_S64x1024_S1x64x1024
/-- Its own block row with the first two of the peers'. -/
def some3 : FVec F S64x1024 .f32 := k0_pay12 (k0_pay10 (gathered X d) (wi d) (wo d)) (got X wi wo d 2) (got X wi wo d 0)
/-- All four, -/
def all4 : FVec F S64x1024 .f32 := k0_pay38 (some3 X wi wo d) (got X wi wo d 1)
/-- and narrowed: the next activation. -/
def next : Blk F := k0_pay13 (some3 X wi wo d) (got X wi wo d 1)
end Step

variable (I : Ins F)

/-- The activation entering layer `l`. -/
def act : ℕ → Dev nD → Blk F
  | 0, d => narrow (I.x d)
  | l + 1, d => next (act l) (fun d => narrow (I.wi l d)) (fun d => narrow (I.wo l d)) d

/-- The exchange's values. -/
def vals : Vals F where
  X := act I
  P l d t := part (act I l) (fun d => narrow (I.wi l d)) (fun d => narrow (I.wo l d)) d t

/-- The result. -/
def result (d : Dev nD) : S64x1024.Idx → Elt F .f32 := all4 (act I 2) (fun d => narrow (I.wi 2 d)) (fun d => narrow (I.wo 2 d)) d

/-! ## The run -/

/-- The semaphores of the weights' transfers. -/
abbrev wS0 : DmaSem sig := ((cc0_scratch11.slice (Rect.unit (s := S2) ![0] S1.size inb_S2_S1_0)).squeeze S_ squeezes_S1_S_).sem
abbrev wS1 : DmaSem sig := ((cc0_scratch11.slice (Rect.unit (s := S2) ![1] S1.size inb_S2_S1_1)).squeeze S_ squeezes_S1_S_).sem
theorem wS0_none : ck? ((c : Thread nD τ), .dma wS0) = none :=
  (if_pos rfl).trans (show cks.find? (fun k => decide (ckOf (.dma wS0) k)) = none by decide)
theorem wS1_none : ck? ((c : Thread nD τ), .dma wS1) = none :=
  (if_pos rfl).trans (show cks.find? (fun k => decide (ckOf (.dma wS1) k)) = none by decide)

/-! ## What is owed, stretch by stretch -/

abbrev S2' : List Pay := []
abbrev G2' : List Pay := .rs 2 1 :: .rs 2 0 :: .rs 2 2 :: S2'
abbrev S1' : List Pay := .ag 2 1 :: .ag 2 0 :: .ag 2 2 :: G2'
abbrev G1' : List Pay := .rs 1 1 :: .rs 1 0 :: .rs 1 2 :: S1'
abbrev S0' : List Pay := .ag 1 1 :: .ag 1 0 :: .ag 1 2 :: G1'
abbrev G0' : List Pay := .rs 0 1 :: .rs 0 0 :: .rs 0 2 :: S0'
abbrev B0' : List Pay := .ag 0 1 :: .ag 0 0 :: .ag 0 2 :: G0'

/-! ## Groups of three, regrouped -/

theorem unpast (a : Fin 4) (l : ℕ) : (past3 (F := F) c a l : sProp 𝕄) ⊢ iprop(all3 (atCh c a l) ∗ come c a l) := by
  iintro ⟨⟨P0, R0⟩, ⟨P1, R1⟩, ⟨P2, R2⟩⟩
  isplitl [P0 P1 P2]
  · isplitl [P0]; · iexact P0
    isplitl [P1]; · iexact P1
    iexact P2
  isplitl [R0]; · iexact R0
  isplitl [R1]; · iexact R1
  iexact R2

variable (V : Vals F)

theorem come_start (a : Fin 4) : env V K ⊢ (come (F := F) c a 0 : sProp 𝕄) := by
  iintro #He
  isplitr; · iapply (env_reached V K c (some (a, 0))); iexact He
  isplitr; · iapply (env_reached V K c (some (a, 1))); iexact He
  iapply (env_reached V K c (some (a, 2))); iexact He

theorem ag_ride_start : (iprop(emp) : sProp 𝕄) ⊢ all3 (fun i => agRide (F := F) (peer c i) i.rev 0) := by
  unfold agRide; simp only [if_pos]
  iintro -
  isplitr; · iempintro
  isplitr; · iempintro
  iempintro

theorem rs_ride_end : (iprop(emp) : sProp 𝕄) ⊢ all3 (fun i => rsRide (F := F) (peer c i) i.rev 2) := by
  unfold rsRide; simp only [Nat.lt_irrefl, if_false]
  iintro -
  isplitr; · iempintro
  isplitr; · iempintro
  iempintro

theorem give_pg3 (l : ℕ) (hl : l ≠ 0) :
    iprop(all3 (fun i => anyBlk c (slotOf pgM i.succ)) ∗ come c 3 l) ⊢ (all3 (fun i => agRide (F := F) (peer c i) i.rev l) : sProp 𝕄) := by
  iintro ⟨⟨G0, G1, G2⟩, ⟨R0, R1, R2⟩⟩
  isplitl [G0 R0]
  · iapply (give_pg c 0 l hl); isplitl [G0]; · iexact G0
    iexact R0
  isplitl [G1 R1]
  · iapply (give_pg c 1 l hl); isplitl [G1]; · iexact G1
    iexact R1
  iapply (give_pg c 2 l hl); isplitl [G2]; · iexact G2
  iexact R2

theorem give_xg3 (l : ℕ) (hl : l < 2) (Y : Fin 3 → Blk F) :
    iprop(all3 (fun i => owns (c : Thread nD τ) (slotOf xgM i.succ) fullShare (Y i)) ∗ come c 1 (l + 1)) ⊢ (all3 (fun i => rsRide (F := F) (peer c i) i.rev l) : sProp 𝕄) := by
  iintro ⟨⟨G0, G1, G2⟩, ⟨R0, R1, R2⟩⟩
  isplitl [G0 R0]
  · iapply (give_xg c 0 l hl (Y 0)); isplitl [G0]; · iexact G0
    iexact R0
  isplitl [G1 R1]
  · iapply (give_xg c 1 l hl (Y 1)); isplitl [G1]; · iexact G1
    iexact R1
  iapply (give_xg c 2 l hl (Y 2)); isplitl [G2]; · iexact G2
  iexact R2

theorem door_pg (l : ℕ) (hl : l ≠ 0) : all3 (fun i => agRide (F := F) c i l) ⊢ (all3 (fun i => pDoor c i l) : sProp 𝕄) := by
  unfold agRide; simp only [if_neg hl]; exact .rfl
theorem door_xg (l : ℕ) (hl : l < 2) : all3 (fun i => rsRide (F := F) c i l) ⊢ (all3 (fun i => xDoor c i (l + 1)) : sProp 𝕄) := by
  unfold rsRide; simp only [if_pos hl]; exact .rfl

/-- The own activation whole again. -/
theorem back_x (l : ℕ) : iprop(all3 (fun i => chPay V c i l 0) ∗ owns (c : Thread nD τ) (slotOf xgM 0) qkeep (V.X l c))
    ⊢ (owns (c : Thread nD τ) (slotOf xgM 0) fullShare (V.X l c) : sProp 𝕄) := (xShares c (V.X l c)).2

/-- The rows of the partial product back. -/
theorem back_rows (l : ℕ) : iprop(all3 (fun i => chPay V c i l 2) ∗ anyBlk c (rowsOf 0))
    ⊢ (iprop(anyBlk c (rowsOf 0) ∗ anyBlk c (rowsOf 1) ∗ anyBlk c (rowsOf 2) ∗ anyBlk c (rowsOf 3)) : sProp 𝕄) := by
  iintro ⟨⟨H1, H2, H3⟩, H0⟩
  isplitl [H0]; · iexact H0
  unfold anyBlk
  isplitl [H1]; · iexists V.P l c 1; iapply (show chPay V c 0 l 2 ⊢ owns (c : Thread nD τ) (rowsOf 1) fullShare (V.P l c 1) from .rfl); iexact H1
  isplitl [H2]; · iexists V.P l c 2; iapply (show chPay V c 1 l 2 ⊢ owns (c : Thread nD τ) (rowsOf 2) fullShare (V.P l c 2) from .rfl); iexact H2
  iexists V.P l c 3; iapply (show chPay V c 2 l 2 ⊢ owns (c : Thread nD τ) (rowsOf 3) fullShare (V.P l c 3) from .rfl); iexact H3

theorem any_intro {M : Memref sig .tc .vmem S64x1024 .bf16} {X : Blk F} : owns (c : Thread nD τ) M fullShare X ⊢ (anyBlk c M : sProp 𝕄) := by
  unfold anyBlk; iintro H; iexists X; iexact H
theorem any_intro3 {M : Fin 3 → Memref sig .tc .vmem S64x1024 .bf16} {X : Fin 3 → Blk F} :
    all3 (fun i => owns (c : Thread nD τ) (M i) fullShare (X i)) ⊢ (all3 (fun i => anyBlk c (M i)) : sProp 𝕄) := by
  iintro ⟨H0, H1, H2⟩
  isplitl [H0]; · iapply (any_intro c); iexact H0
  isplitl [H1]; · iapply (any_intro c); iexact H1
  iapply (any_intro c); iexact H2

/-- What the barrier brings. -/
theorem doors : iprop(barPay c 0 ∗ barPay c 1 ∗ barPay c 2) ⊢ (iprop(all3 (fun i => xDoor (F := F) c i 0) ∗ all3 (fun i => pDoor (F := F) c i 0)) : sProp 𝕄) := by
  unfold barPay
  iintro ⟨⟨X0, P0⟩, ⟨X1, P1⟩, ⟨X2, P2⟩⟩
  isplitl [X0 X1 X2]
  · isplitl [X0]; · iexact X0
    isplitl [X1]; · iexact X1
    iexact X2
  isplitl [P0]; · iexact P0
  isplitl [P1]; · iexact P1
  iexact P2

/-! ## The run -/

/-- What one layer uses up: the duties of its sends, the credit of its arrivals. -/
def supply (l : ℕ) : sProp 𝕄 :=
  iprop(all3 (toks c 0 1 l) ∗ all3 (toks c 2 3 l) ∗ all3 (fun i => cred (tallyAt (ch c 1 i) l N)) ∗ all3 (fun i => cred (tallyAt (ch c 3 i) l N)))

/-- Anything, in a buffer held outright. -/
abbrev some' {s : Shape} {e : EltTy} (m : Memref sig .tc .vmem s e) : sProp 𝕄 := iprop(∃ X, owns (c : Thread nD τ) m fullShare X)

/-- The weights in the device's memory. -/
def weights : sProp 𝕄 :=
  iprop((owns (c : Thread nD τ) (Memref.whole main_arg1) fullShare (I.wi 0 c) ∗ owns (c : Thread nD τ) (Memref.whole main_arg4) fullShare (I.wo 0 c))
    ∗ (owns (c : Thread nD τ) (Memref.whole main_arg2) fullShare (I.wi 1 c) ∗ owns (c : Thread nD τ) (Memref.whole main_arg5) fullShare (I.wo 1 c))
    ∗ (owns (c : Thread nD τ) (Memref.whole main_arg3) fullShare (I.wi 2 c) ∗ owns (c : Thread nD τ) (Memref.whole main_arg6) fullShare (I.wo 2 c)))

/-- The exchange's wait positions. -/
def positions (b l : ℕ) : sProp 𝕄 :=
  iprop(atPos ER (bar c) b ∅ 0 ∗ all3 (atCh c 0 l) ∗ all3 (atCh c 1 l) ∗ all3 (atCh c 2 l) ∗ all3 (atCh c 3 l))

/-- The scratch buffers and the two semaphores of the weights. -/
def scratch : sProp 𝕄 :=
  iprop((anyBlk c (slotOf xgM 0) ∗ all3 (fun i => anyBlk c (slotOf xgM i.succ))) ∗ (anyBlk c (slotOf pgM 0) ∗ all3 (fun i => anyBlk c (slotOf pgM i.succ)))
    ∗ (anyBlk c (rowsOf 0) ∗ anyBlk c (rowsOf 1) ∗ anyBlk c (rowsOf 2) ∗ anyBlk c (rowsOf 3))
    ∗ some' c siM ∗ some' c soM ∗ some' c wiM ∗ some' c woM ∗ semVal ((c : Thread nD τ), .dma wS0) 0 ∗ semVal ((c : Thread nD τ), .dma wS1) 0)

/-- What the device has of the exchange at the start. -/
def stake : sProp 𝕄 :=
  iprop(ow c (.bar 0 :: .bar 1 :: .bar 2 :: B0') ∗ cred (tallyAt (bar c) 0 3) ∗ all3 (fun i => dutyTok ER (bar (peer c i)) 0 i.rev)
    ∗ supply c 0 ∗ supply c 1 ∗ supply c 2)

theorem pos_of_later {ps : List Pay} (h : ∀ p ∈ ps, 1 < p.lev ∧ p.rnd < 3) : ∀ p ∈ ps, 0 < p.lev ∧ p.rnd < 3 :=
  fun p hp => ⟨Nat.lt_trans Nat.zero_lt_one (h p hp).1, (h p hp).2⟩

/-- The stores of the next activations. -/
theorem step_0 : k0_pay14 (k0_pay13 (k0_pay12 (k0_pay10 (xAll (vals I) c 0) (narrow (I.wi 0 c)) (narrow (I.wo 0 c))) (arrived (vals I) c 0 2) (arrived (vals I) c 0 0)) (arrived (vals I) c 0 1))
    = shapeCast S1x64x1024 ((vals I).X 1 c) shapeCasts_S64x1024_S1x64x1024 := rfl
theorem step_1 : k0_pay27 (k0_pay26 (k0_pay25 (k0_pay23 (k0_pay21 (xAll (vals I) c 1) (narrow (I.wi 1 c))) (narrow (I.wo 1 c))) (arrived (vals I) c 1 2) (arrived (vals I) c 1 0)) (arrived (vals I) c 1 1))
    = shapeCast S1x64x1024 ((vals I).X 2 c) shapeCasts_S64x1024_S1x64x1024 := rfl
/-- The store of the result. -/
theorem step_2 : k0_pay38 (k0_pay37 (k0_pay35 (xAll (vals I) c 2) (narrow (I.wi 2 c)) (narrow (I.wo 2 c))) (arrived (vals I) c 2 2) (arrived (vals I) c 2 0)) (arrived (vals I) c 2 1)
    = result I c := rfl

set_option maxHeartbeats 8000000 in
/-- The kernel runs from its stake to its result. -/
theorem body_run {Q : PUnit → sProp 𝕄} (mx mo : Memref sig .tc .vmem S64x1024 .f32) (hmx : mx.IsWhole) (hmo : mo.IsWhole) :
    iprop(env (vals I) K ∗ stake c ∗ positions c 0 0 ∗ scratch c ∗ weights c I ∗ owns (c : Thread nD τ) mx fullShare (I.x c) ∗ some' c mo)
      ⊢ iprop(((ow c [] ∗ positions c 1 3 ∗ scratch c ∗ weights c I ∗ owns (c : Thread nD τ) mx fullShare (I.x c)
            ∗ owns (c : Thread nD τ) mo fullShare (result I c)) -∗ Q ⟨⟩)
          -∗ WP c (cc0_body mx hmx (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) mo hmo xgM (Memref.isWhole_whole _) pgM (Memref.isWhole_whole _) pmM (Memref.isWhole_whole _) siM (Memref.isWhole_whole _) soM (Memref.isWhole_whole _) wiM (Memref.isWhole_whole _) woM (Memref.isWhole_whole _) cc0_scratch7 cc0_scratch8 cc0_scratch9 cc0_scratch10 cc0_scratch11) Q) := by
  rw [cc0_body_eq_skeleton]
  unfold cc0_body_skel
  rw [k0_part25_eq_skeleton]
  unfold k0_part25_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, wp_deviceId]
  unfold stake positions supply scratch weights
  iintro ⟨#He, ⟨HO, CB, ⟨TB0, TB1, TB2⟩, ⟨TX0, TP0, CX0, CP0⟩, ⟨TX1, TP1, CX1, CP1⟩, ⟨TX2, TP2, CX2, CP2⟩⟩, ⟨PB, PX, PG, PS, PR⟩,
    ⟨⟨HX0, HX1, HX2, HX3⟩, ⟨HP0, HP1, HP2, HP3⟩, HM, SI, SO, WI, WO, V0, V1⟩, ⟨⟨A1, A4⟩, ⟨A2, A5⟩, ⟨A3, A6⟩⟩, Hx, Hy⟩ Hk
  -- the first weights on their way
  iapply (fetch c (I.wi 0 c) (View.dmaCredit_pos _ (by decide))) $$ [A1 SI V0]
  · isplitl [A1]; · iexact A1
    isplitl [SI]; · iexact SI
    iexact V0
  iintro F0
  iapply (fetch c (I.wo 0 c) (View.dmaCredit_pos _ (by decide))) $$ [A4 SO V1]
  · isplitl [A4]; · iexact A4
    isplitl [SO]; · iexact SO
    iexact V1
  iintro F1
  -- the barrier
  iapply (step_signal (vals I) K c _ 0 (Fin.ext (k0_dev1_eq c)) (.bar 1 :: .bar 2 :: B0') (BitVec.toInt 1#32) (by decide)) $$ [HO TB0 HX1 HP1]
  · isplitr; · iexact He
    isplitl [HO]; · iexact HO
    isplitl [TB0]; · iexact TB0
    isplitl [HX1]; · iexact HX1
    iexact HP1
  iintro HO
  iapply (step_signal (vals I) K c _ 1 (Fin.ext (k0_dev2_eq c)) (.bar 2 :: B0') (BitVec.toInt 1#32) (by decide)) $$ [HO TB1 HX2 HP2]
  · isplitr; · iexact He
    isplitl [HO]; · iexact HO
    isplitl [TB1]; · iexact TB1
    isplitl [HX2]; · iexact HX2
    iexact HP2
  iintro HO
  iapply (step_signal (vals I) K c _ 2 (Fin.ext (k0_dev3_eq c)) B0' (BitVec.toInt 1#32) (by decide)) $$ [HO TB2 HX3 HP3]
  · isplitr; · iexact He
    isplitl [HO]; · iexact HO
    isplitl [TB2]; · iexact TB2
    isplitl [HX3]; · iexact HX3
    iexact HP3
  iintro HO
  iapply (step_barrier (vals I) K c B0' (by decide) (BitVec.toInt 3#32) (by decide)) $$ [CB HO PB]
  · isplitr; · iexact He
    isplitl [CB]; · iexact CB
    isplitl [HO]; · iexact HO
    iexact PB
  iintro ⟨HO, PB, HD⟩
  ihave HD := (doors c) $$ HD
  icases HD with ⟨DX, DP⟩
  -- the own activation
  iapply (load_all c (I.x c)) $$ Hx
  iintro Hx
  ihave HX0 := (show anyBlk c (slotOf xgM 0) ⊢ iprop(∃ Y, owns (c : Thread nD τ) (slotOf xgM 0) fullShare Y) from .rfl) $$ HX0
  icases HX0 with ⟨%Y, HX0⟩
  iapply (load_slot c xgM 0 Y) $$ HX0
  iintro HX0
  iapply (store_slot c xgM Y ((vals I).X 0 c) (show k0_pay1 (I.x c) = _ by unfold k0_pay1; rw [shapeCast_self]; rfl)) $$ HX0
  iintro HX0
  -- layer 0
  ihave HA := (ag_ride_start c) $$ []
  · iempintro
  ihave #R0 := (come_start K c (vals I) 0) $$ He
  ihave #R2 := (come_start K c (vals I) 2) $$ He
  iapply (front (vals I) K c 0 (by decide) G0' (by decide) _ _ _ (Fin.ext (k0_dev4_eq c)) (Fin.ext (k0_dev5_eq c)) (Fin.ext (k0_dev6_eq c))
    (wS0_none c) (wS1_none c) (I.wi 0 c) (I.wo 0 c) k0_pay2 k0_pay3 k0_pay4 (fun v => k0_pay6 (k0_pay5 v)) k0_pay7 k0_pay8
    (fun v => shapeCast_self _ _) (fun v => shapeCast_self _ _) (fun v => shapeCast_self _ _) (fun v => shapeCast_self _ _) (fun v => shapeCast_self _ _) (fun v => shapeCast_self _ _)) $$ [HX0 DX HA TX0 HO F0 F1 WI WO]
  · isplitr; · iexact He
    isplitl [HX0]; · iexact HX0
    isplitl [DX]; · iexact DX
    isplitl [HA]; · iexact HA
    isplitl [TX0]; · iexact TX0
    isplitr; · iexact R0
    isplitl [HO]; · iexact HO
    isplitl [F0]; · iexact F0
    isplitl [F1]; · iexact F1
    isplitl [WI]; · iexact WI
    iexact WO
  iintro ⟨HX0, CS, HO, ⟨SI, A1, V0⟩, ⟨SO, A4, V1⟩, WI, WO⟩
  iapply (fetch c (I.wi 1 c) (View.dmaCredit_pos _ (by decide))) $$ [A2 SI V0]
  · isplitl [A2]; · iexact A2
    isplitl [SI]; · iexists _; iexact SI
    iexact V0
  iintro F0
  iapply (fetch c (I.wo 1 c) (View.dmaCredit_pos _ (by decide))) $$ [A5 SO V1]
  · isplitl [A5]; · iexact A5
    isplitl [SO]; · iexists _; iexact SO
    iexact V1
  iintro F1
  ihave HW := (show iprop(all3 (fun i => cred (tallyAt (ch c 1 i) 0 N)) ∗ all3 (atCh c 1 0)) ⊢ waits3 c 1 0 0 from .rfl) $$ [CX0 PG]
  · isplitl [CX0]; · iexact CX0
    iexact PG
  iapply (middle (d₀ := slotOf xgM 1) (d₁ := slotOf xgM 2) (d₂ := slotOf xgM 3) (vals I) K c 0 (by decide) G0' (by decide) (narrow (I.wi 0 c)) (narrow (I.wo 0 c)) rfl rfl rfl) $$ [HW HO HX0 WI WO]
  · isplitr; · iexact He
    isplitl [HW]; · iexact HW
    isplitl [HO]; · iexact HO
    isplitl [HX0]; · iexact HX0
    isplitl [WI]; · iexact WI
    iexact WO
  iintro ⟨HX0, HXs, HD, PG, HO, WI, WO⟩
  ihave PG := (unpast c 1 1) $$ PG
  icases PG with ⟨PG, #C1⟩
  ihave HR := (give_xg3 c 0 (by decide) _) $$ [HXs]
  · isplitl [HXs]; · iexact HXs
    iexact C1
  iclear HD
  ihave HW := (show iprop(all3 (fun i => cred (tallyAt (ch c 3 i) 0 N)) ∗ all3 (atCh c 3 0)) ⊢ waits3 c 3 0 0 from .rfl) $$ [CP0 PR]
  · isplitl [CP0]; · iexact CP0
    iexact PR
  iapply (back (e₀ := slotOf pgM 1) (e₁ := slotOf pgM 2) (e₂ := slotOf pgM 3) (vals I) K c 0 (by decide) S0' (by decide) _ _ _ (Fin.ext (k0_dev7_eq c)) (Fin.ext (k0_dev8_eq c)) (Fin.ext (k0_dev9_eq c)) (fun t => rfl) rfl rfl rfl) $$ [HM DP HR TP0 HW HO]
  · isplitr; · iexact He
    isplitl [HM]; · iexact HM
    isplitl [DP]; · iexact DP
    isplitl [HR]; · iexact HR
    isplitl [TP0]; · iexact TP0
    isplitr; · iexact R2
    isplitl [HW]; · iexact HW
    iexact HO
  iintro ⟨HM0, CM, HPs, HD, PR, HO⟩
  ihave PR := (unpast c 3 1) $$ PR
  icases PR with ⟨PR, #C3⟩
  ihave DX := (door_xg c 0 (by decide)) $$ HD
  ihave HW := (show iprop(all3 (fun i => cred (tallyAt (ch c 0 i) 0 N)) ∗ all3 (atCh c 0 0)) ⊢ waits3 c 0 0 0 from .rfl) $$ [CS PX]
  · isplitl [CS]; · iexact CS
    iexact PX
  iapply (sent3 (d₀ := slotOf xgM 0) (d₁ := slotOf xgM 0) (d₂ := slotOf xgM 0) (vals I) K c 0 (fun _ => rfl) 0 (by decide) S0' (by decide) rfl rfl rfl) $$ [HW HO]
  · isplitr; · iexact He
    isplitl [HW]; · iexact HW
    iexact HO
  iintro ⟨HB, PX, HO⟩
  ihave PX := (unpast c 0 1) $$ PX
  icases PX with ⟨PX, #R0⟩
  ihave HX0 := (back_x c (vals I) 0) $$ [HB HX0]
  · isplitl [HB]; · iexact HB
    iexact HX0
  -- layer 1
  iapply (load_slot c xgM 0 ((vals I).X 0 c)) $$ HX0
  iintro HX0
  iapply (store_slot c xgM ((vals I).X 0 c) ((vals I).X 1 c) (step_0 c I)) $$ HX0
  iintro HX0
  ihave HA := (give_pg3 c 1 (by decide)) $$ [HPs]
  · isplitl [HPs]; · iexact HPs
    iexact C3
  iapply (front (vals I) K c 1 (by decide) G1' (by decide) _ _ _ (Fin.ext (k0_dev10_eq c)) (Fin.ext (k0_dev11_eq c)) (Fin.ext (k0_dev12_eq c))
    (wS0_none c) (wS1_none c) (I.wi 1 c) (I.wo 1 c) k0_pay15 k0_pay16 k0_pay17 k0_pay18 k0_pay19 k0_pay20
    (fun v => shapeCast_self _ _) (fun v => shapeCast_self _ _) (fun v => shapeCast_self _ _) (fun v => shapeCast_self _ _) (fun v => shapeCast_self _ _) (fun v => shapeCast_self _ _)) $$ [HX0 DX HA TX1 HO F0 F1 WI WO]
  · isplitr; · iexact He
    isplitl [HX0]; · iexact HX0
    isplitl [DX]; · iexact DX
    isplitl [HA]; · iexact HA
    isplitl [TX1]; · iexact TX1
    isplitr; · iexact R0
    isplitl [HO]; · iexact HO
    isplitl [F0]; · iexact F0
    isplitl [F1]; · iexact F1
    isplitl [WI]; · iexists _; iexact WI
    iexists _; iexact WO
  iintro ⟨HX0, CS, HO, ⟨SI, A2, V0⟩, ⟨SO, A5, V1⟩, WI, WO⟩
  iapply (fetch c (I.wi 2 c) (View.dmaCredit_pos _ (by decide))) $$ [A3 SI V0]
  · isplitl [A3]; · iexact A3
    isplitl [SI]; · iexists _; iexact SI
    iexact V0
  iintro F0
  iapply (fetch c (I.wo 2 c) (View.dmaCredit_pos _ (by decide))) $$ [A6 SO V1]
  · isplitl [A6]; · iexact A6
    isplitl [SO]; · iexists _; iexact SO
    iexact V1
  iintro F1
  ihave HW := (show iprop(all3 (fun i => cred (tallyAt (ch c 1 i) 1 N)) ∗ all3 (atCh c 1 1)) ⊢ waits3 c 1 1 1 from .rfl) $$ [CX1 PG]
  · isplitl [CX1]; · iexact CX1
    iexact PG
  iapply (middle (d₀ := slotOf xgM 1) (d₁ := slotOf xgM 2) (d₂ := slotOf xgM 3) (vals I) K c 1 (by decide) G1' (by decide) (narrow (I.wi 1 c)) (narrow (I.wo 1 c)) rfl rfl rfl) $$ [HW HO HX0 WI WO]
  · isplitr; · iexact He
    isplitl [HW]; · iexact HW
    isplitl [HO]; · iexact HO
    isplitl [HX0]; · iexact HX0
    isplitl [WI]; · iexact WI
    iexact WO
  iintro ⟨HX0, HXs, HD, PG, HO, WI, WO⟩
  ihave PG := (unpast c 1 2) $$ PG
  icases PG with ⟨PG, #C1⟩
  ihave HW := (show iprop(all3 (fun i => cred (tallyAt (ch c 2 i) 0 N)) ∗ all3 (atCh c 2 0)) ⊢ waits3 c 2 0 0 from .rfl) $$ [CM PS]
  · isplitl [CM]; · iexact CM
    iexact PS
  iapply (sent3 (d₀ := rowsOf 1) (d₁ := rowsOf 2) (d₂ := rowsOf 3) (vals I) K c 2 (fun _ => rfl) 0 (by decide) G1' (by decide) rfl rfl rfl) $$ [HW HO]
  · isplitr; · iexact He
    isplitl [HW]; · iexact HW
    iexact HO
  iintro ⟨HB, PS, HO⟩
  ihave PS := (unpast c 2 1) $$ PS
  icases PS with ⟨PS, #R2⟩
  ihave HM := (back_rows c (vals I) 0) $$ [HB HM0]
  · isplitl [HB]; · iexact HB
    iexact HM0
  ihave HR := (give_xg3 c 1 (by decide) _) $$ [HXs]
  · isplitl [HXs]; · iexact HXs
    iexact C1
  ihave DP := (door_pg c 1 (by decide)) $$ HD
  ihave HW := (show iprop(all3 (fun i => cred (tallyAt (ch c 3 i) 1 N)) ∗ all3 (atCh c 3 1)) ⊢ waits3 c 3 1 1 from .rfl) $$ [CP1 PR]
  · isplitl [CP1]; · iexact CP1
    iexact PR
  iapply (back (e₀ := slotOf pgM 1) (e₁ := slotOf pgM 2) (e₂ := slotOf pgM 3) (vals I) K c 1 (by decide) S1' (by decide) _ _ _ (Fin.ext (k0_dev13_eq c)) (Fin.ext (k0_dev14_eq c)) (Fin.ext (k0_dev15_eq c)) (fun t => rfl) rfl rfl rfl) $$ [HM DP HR TP1 HW HO]
  · isplitr; · iexact He
    isplitl [HM]; · iexact HM
    isplitl [DP]; · iexact DP
    isplitl [HR]; · iexact HR
    isplitl [TP1]; · iexact TP1
    isplitr; · iexact R2
    isplitl [HW]; · iexact HW
    iexact HO
  iintro ⟨HM0, CM, HPs, HD, PR, HO⟩
  ihave PR := (unpast c 3 2) $$ PR
  icases PR with ⟨PR, #C3⟩
  ihave DX := (door_xg c 1 (by decide)) $$ HD
  ihave HW := (show iprop(all3 (fun i => cred (tallyAt (ch c 0 i) 0 N)) ∗ all3 (atCh c 0 1)) ⊢ waits3 c 0 0 1 from .rfl) $$ [CS PX]
  · isplitl [CS]; · iexact CS
    iexact PX
  iapply (sent3 (d₀ := slotOf xgM 0) (d₁ := slotOf xgM 0) (d₂ := slotOf xgM 0) (vals I) K c 0 (fun _ => rfl) 1 (by decide) S1' (by decide) rfl rfl rfl) $$ [HW HO]
  · isplitr; · iexact He
    isplitl [HW]; · iexact HW
    iexact HO
  iintro ⟨HB, PX, HO⟩
  ihave PX := (unpast c 0 2) $$ PX
  icases PX with ⟨PX, #R0⟩
  ihave HX0 := (back_x c (vals I) 1) $$ [HB HX0]
  · isplitl [HB]; · iexact HB
    iexact HX0
  -- layer 2
  iapply (load_slot c xgM 0 ((vals I).X 1 c)) $$ HX0
  iintro HX0
  iapply (store_slot c xgM ((vals I).X 1 c) ((vals I).X 2 c) (step_1 c I)) $$ HX0
  iintro HX0
  ihave HA := (give_pg3 c 2 (by decide)) $$ [HPs]
  · isplitl [HPs]; · iexact HPs
    iexact C3
  iapply (front (vals I) K c 2 (by decide) G2' (by decide) _ _ _ (Fin.ext (k0_dev16_eq c)) (Fin.ext (k0_dev17_eq c)) (Fin.ext (k0_dev18_eq c))
    (wS0_none c) (wS1_none c) (I.wi 2 c) (I.wo 2 c) k0_pay28 k0_pay29 k0_pay30 k0_pay31 k0_pay32 k0_pay33
    (fun v => shapeCast_self _ _) (fun v => shapeCast_self _ _) (fun v => shapeCast_self _ _) (fun v => shapeCast_self _ _) (fun v => shapeCast_self _ _) (fun v => shapeCast_self _ _)) $$ [HX0 DX HA TX2 HO F0 F1 WI WO]
  · isplitr; · iexact He
    isplitl [HX0]; · iexact HX0
    isplitl [DX]; · iexact DX
    isplitl [HA]; · iexact HA
    isplitl [TX2]; · iexact TX2
    isplitr; · iexact R0
    isplitl [HO]; · iexact HO
    isplitl [F0]; · iexact F0
    isplitl [F1]; · iexact F1
    isplitl [WI]; · iexists _; iexact WI
    iexists _; iexact WO
  iintro ⟨HX0, CS, HO, ⟨SI, A3, V0⟩, ⟨SO, A6, V1⟩, WI, WO⟩
  ihave HW := (show iprop(all3 (fun i => cred (tallyAt (ch c 1 i) 2 N)) ∗ all3 (atCh c 1 2)) ⊢ waits3 c 1 2 2 from .rfl) $$ [CX2 PG]
  · isplitl [CX2]; · iexact CX2
    iexact PG
  iapply (middle (d₀ := slotOf xgM 1) (d₁ := slotOf xgM 2) (d₂ := slotOf xgM 3) (vals I) K c 2 (by decide) G2' (by decide) (narrow (I.wi 2 c)) (narrow (I.wo 2 c)) rfl rfl rfl) $$ [HW HO HX0 WI WO]
  · isplitr; · iexact He
    isplitl [HW]; · iexact HW
    isplitl [HO]; · iexact HO
    isplitl [HX0]; · iexact HX0
    isplitl [WI]; · iexact WI
    iexact WO
  iintro ⟨HX0, HXs, HD, PG, HO, WI, WO⟩
  ihave PG := (unpast c 1 3) $$ PG
  icases PG with ⟨PG, #C1⟩
  ihave HW := (show iprop(all3 (fun i => cred (tallyAt (ch c 2 i) 0 N)) ∗ all3 (atCh c 2 1)) ⊢ waits3 c 2 0 1 from .rfl) $$ [CM PS]
  · isplitl [CM]; · iexact CM
    iexact PS
  iapply (sent3 (d₀ := rowsOf 1) (d₁ := rowsOf 2) (d₂ := rowsOf 3) (vals I) K c 2 (fun _ => rfl) 1 (by decide) G2' (by decide) rfl rfl rfl) $$ [HW HO]
  · isplitr; · iexact He
    isplitl [HW]; · iexact HW
    iexact HO
  iintro ⟨HB, PS, HO⟩
  ihave PS := (unpast c 2 2) $$ PS
  icases PS with ⟨PS, #R2⟩
  ihave HM := (back_rows c (vals I) 1) $$ [HB HM0]
  · isplitl [HB]; · iexact HB
    iexact HM0
  ihave HR := (rs_ride_end c) $$ []
  · iempintro
  ihave DP := (door_pg c 2 (by decide)) $$ HD
  ihave HW := (show iprop(all3 (fun i => cred (tallyAt (ch c 3 i) 2 N)) ∗ all3 (atCh c 3 2)) ⊢ waits3 c 3 2 2 from .rfl) $$ [CP2 PR]
  · isplitl [CP2]; · iexact CP2
    iexact PR
  iapply (back (e₀ := slotOf pgM 1) (e₁ := slotOf pgM 2) (e₂ := slotOf pgM 3) (vals I) K c 2 (by decide) S2' (by decide) _ _ _ (Fin.ext (k0_dev19_eq c)) (Fin.ext (k0_dev20_eq c)) (Fin.ext (k0_dev21_eq c)) (fun t => rfl) rfl rfl rfl) $$ [HM DP HR TP2 HW HO]
  · isplitr; · iexact He
    isplitl [HM]; · iexact HM
    isplitl [DP]; · iexact DP
    isplitl [HR]; · iexact HR
    isplitl [TP2]; · iexact TP2
    isplitr; · iexact R2
    isplitl [HW]; · iexact HW
    iexact HO
  iintro ⟨HM0, CM, HPs, HD, PR, HO⟩
  ihave PR := (unpast c 3 3) $$ PR
  icases PR with ⟨PR, #C3⟩
  iclear HD
  -- the result
  ihave Hy := (show some' c mo ⊢ iprop(∃ X, owns (c : Thread nD τ) mo fullShare X) from .rfl) $$ Hy
  icases Hy with ⟨%Z, Hy⟩
  iapply (load_all c Z) $$ Hy
  iintro Hy
  iapply (store_all c) $$ [Hy]
  · iexists Z; iexact Hy
  iintro Hy
  ihave HW := (show iprop(all3 (fun i => cred (tallyAt (ch c 0 i) 0 N)) ∗ all3 (atCh c 0 2)) ⊢ waits3 c 0 0 2 from .rfl) $$ [CS PX]
  · isplitl [CS]; · iexact CS
    iexact PX
  iapply (sent3 (d₀ := slotOf xgM 0) (d₁ := slotOf xgM 0) (d₂ := slotOf xgM 0) (vals I) K c 0 (fun _ => rfl) 2 (by decide) S2' (by decide) rfl rfl rfl) $$ [HW HO]
  · isplitr; · iexact He
    isplitl [HW]; · iexact HW
    iexact HO
  iintro ⟨HB, PX, HO⟩
  ihave PX := (unpast c 0 3) $$ PX
  icases PX with ⟨PX, #R0⟩
  ihave HX0 := (back_x c (vals I) 2) $$ [HB HX0]
  · isplitl [HB]; · iexact HB
    iexact HX0
  ihave HW := (show iprop(all3 (fun i => cred (tallyAt (ch c 2 i) 0 N)) ∗ all3 (atCh c 2 2)) ⊢ waits3 c 2 0 2 from .rfl) $$ [CM PS]
  · isplitl [CM]; · iexact CM
    iexact PS
  iapply (sent3 (d₀ := rowsOf 1) (d₁ := rowsOf 2) (d₂ := rowsOf 3) (vals I) K c 2 (fun _ => rfl) 2 (by decide) S2' (by decide) rfl rfl rfl) $$ [HW HO]
  · isplitr; · iexact He
    isplitl [HW]; · iexact HW
    iexact HO
  iintro ⟨HB, PS, HO⟩
  ihave PS := (unpast c 2 3) $$ PS
  icases PS with ⟨PS, #R2⟩
  ihave HM := (back_rows c (vals I) 2) $$ [HB HM0]
  · isplitl [HB]; · iexact HB
    iexact HM0
  iapply (show iprop(|={Set.univ}=> Q ⟨⟩) ⊢ WP c (.ret ⟨⟩) Q from .rfl)
  imodintro
  iapply Hk
  isplitl [HO]; · iexact HO
  isplitl [PB PX PG PS PR]
  · isplitl [PB]; · iexact PB
    isplitl [PX]; · iexact PX
    isplitl [PG]; · iexact PG
    isplitl [PS]; · iexact PS
    iexact PR
  isplitl [HX0 HXs HP0 HPs HM SI SO WI WO V0 V1]
  · isplitl [HX0 HXs]
    · isplitl [HX0]; · iapply (any_intro c); iexact HX0
      iapply (any_intro3 c); iexact HXs
    isplitl [HP0 HPs]
    · isplitl [HP0]; · iexact HP0
      iexact HPs
    isplitl [HM]; · iexact HM
    isplitl [SI]; · iexists _; iexact SI
    isplitl [SO]; · iexists _; iexact SO
    isplitl [WI]; · iexists _; iexact WI
    isplitl [WO]; · iexists _; iexact WO
    isplitl [V0]; · iexact V0
    iexact V1
  isplitl [A1 A2 A3 A4 A5 A6]
  · isplitl [A1 A4]
    · isplitl [A1]; · iexact A1
      iexact A4
    isplitl [A2 A5]
    · isplitl [A2]; · iexact A2
      iexact A5
    isplitl [A3]; · iexact A3
    iexact A6
  isplitl [Hx]; · iexact Hx
  iapply (Entails.of_eq (congrArg (owns (c : Thread nD τ) mo fullShare) (step_2 c I)))
  iexact Hy

end Cert.KernelIdeal.Mesh

end
-- ==== Proof.Launch.lean ====
/-
# What each device starts from

The launch deals every device the state of its own cells and the duties to be paid there; the devices then exchange the
duties, each taking those it pays itself. What the devices owe one another at the start is credit at the cells.
-/
module

public import proofs.«01_k».proof.Proof.Body

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Conjunctions over finite types -/

theorem sep_option {A : Type} [Fintype A] (Φ : Option A → sProp 𝕄) :
    bigSep Finset.univ Φ = iprop(Φ none ∗ bigSep Finset.univ fun a => Φ (some a)) := by
  rw [bigSep_univ_equiv (Equiv.optionEquivSumPUnit.{0} A).symm Φ, bigSep_univ_sum, bigSep_univ_of_subsingleton PUnit.unit]
  exact BI.Entails.antisymm BI.sep_comm BI.sep_comm
theorem sep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem sep3 (Φ : Fin 3 → sProp 𝕄) : bigSep Finset.univ Φ = all3 Φ :=
  bigSep_univ_eq_bigSepL [0, 1, 2] (by decide) (by decide) Φ

theorem with_shared {A : Type} [DecidableEq A] {S : Finset A} {R : sProp 𝕄} [BI.Persistent R] {Φ Ψ : A → sProp 𝕄}
    (h : ∀ a ∈ S, iprop(R ∗ Φ a) ⊢ Ψ a) : iprop(R ∗ bigSep S Φ) ⊢ bigSep S Ψ :=
  (sep_mono_left (BI.bigSep_of_persistent S R)).trans (by rw [← bigSep_sep']; exact bigSep_mono h)

theorem zip3 (A B : Fin 3 → sProp 𝕄) : iprop(all3 A ∗ all3 B) ⊢ all3 (fun i => iprop(A i ∗ B i)) := by
  iintro ⟨⟨A0, A1, A2⟩, ⟨B0, B1, B2⟩⟩
  isplitl [A0 B0]
  · isplitl [A0]; · iexact A0
    iexact B0
  isplitl [A1 B1]
  · isplitl [A1]; · iexact A1
    iexact B1
  isplitl [A2]; · iexact A2
  iexact B2

/-! ## The semaphores -/

/-- The kernel's own semaphores in use: the channels', and the two of the weights. -/
abbrev osem : (Fin 4 × Fin 3) ⊕ Fin 2 → SemLoc sig
  | .inl (a, i) => .dma (chSem a i)
  | .inr 0 => .dma wS0
  | .inr 1 => .dma wS1

theorem ownSemFacts : Pipeline.OwnSemFacts cfg0.spec osem := by decide

/-- The own semaphores and the barrier at zero are the cells' semaphores and the weights' at zero. -/
theorem sems0_eq (c : Dev nD) :
    iprop(Pipeline.ownSems0 (Ix := ℕ) (Name := ℕ) (U := UU) (Lvl := ℕ) (Val := Elt F) (τ := τ) osem c ∗ unscopedSems0 c)
      ⊣⊢ (iprop((bigSep Finset.univ fun k : CK => semVal (kcell (c, k)) 0)
          ∗ semVal ((c : Thread nD τ), .dma wS0) 0 ∗ semVal ((c : Thread nD τ), .dma wS1) 0) : sProp 𝕄) := by
  have hu : (unscopedSems0 c : sProp 𝕄) = semVal (bar c) 0 := by
    unfold unscopedSems0; rw [bigSep_eq_bigSepL_of_eq [SemLoc.reg barS] (by decide) (by decide)]; rfl
  rw [hu, sep_option]
  unfold Pipeline.ownSems0
  rw [sep_sum, sep2]
  constructor
  · iintro ⟨⟨H, W⟩, B⟩
    isplitl [H B]
    · isplitl [B]; · iexact B
      iexact H
    iexact W
  · iintro ⟨⟨B, H⟩, W⟩
    isplitr [B]
    · isplitl [H]; · iexact H
      iexact W
    iexact B

/-! ## The duties dealt -/

/-- A device's duties: three at the barrier, one a round at each channel. -/
abbrev Tk : Type := Option (Fin 3 × Fin 4) × Fin 3

abbrev tokOf (ct : Dev nD × Tk) : GSem nD τ sig × ℕ × Fin 3 :=
  match ct.2 with
  | (none, i) => (bar ct.1, 0, i)
  | (some (l, a), i) => (ch ct.1 a i, l.val, 0)

theorem tokOf_injective : Function.Injective tokOf := by
  rintro ⟨c, o, i⟩ ⟨c', o', i'⟩ h
  have hk := congrArg Prod.fst h
  have hr := congrArg (fun x : GSem nD τ sig × ℕ × Fin 3 => x.2) h
  rcases o with _ | ⟨l, a⟩ <;> rcases o' with _ | ⟨l', a'⟩
  · have h1 := Prod.mk.inj (kcell_injective hk)
    have h2 : i = i' := congrArg Prod.snd hr
    exact Prod.ext h1.1 (Prod.ext rfl h2)
  · exact absurd (Prod.mk.inj (kcell_injective hk)).2 (by simp)
  · exact absurd (Prod.mk.inj (kcell_injective hk)).2 (by simp)
  · have h1 := Prod.mk.inj (kcell_injective hk)
    have h2 := Prod.mk.inj (Option.some.inj h1.2)
    have h3 : l = l' := Fin.ext (congrArg Prod.fst hr)
    exact Prod.ext h1.1 (Prod.ext (congrArg some (Prod.ext h3 h2.1)) h2.2)

/-- The duty of a device that is paid where: barrier and receive duties at the peer, send duties at home. -/
def payAt (ct : Dev nD × Tk) : Dev nD × Tk :=
  match ct with
  | (c, none, i) => (peer c i, none, i.rev)
  | (c, some (l, 0), i) => (c, some (l, 0), i)
  | (c, some (l, 1), i) => (peer c i, some (l, 1), i.rev)
  | (c, some (l, 2), i) => (c, some (l, 2), i)
  | (c, some (l, 3), i) => (peer c i, some (l, 3), i.rev)

theorem payAt_payAt : ∀ ct, payAt (payAt ct) = ct := by
  rintro ⟨c, _ | ⟨l, a⟩, i⟩
  · show (peer (peer c i) i.rev, _, i.rev.rev) = _; rw [peer_rev, Fin.rev_rev]
  · fin_cases a
    · rfl
    · show (peer (peer c i) i.rev, _, i.rev.rev) = _; rw [peer_rev, Fin.rev_rev]; rfl
    · rfl
    · show (peer (peer c i) i.rev, _, i.rev.rev) = _; rw [peer_rev, Fin.rev_rev]; rfl

/-- The exchange of duties is a permutation. -/
def payEquiv : Dev nD × Tk ≃ Dev nD × Tk := ⟨payAt, payAt, payAt_payAt, payAt_payAt⟩

abbrev tok (ct : Dev nD × Tk) : sProp 𝕄 := dutyTok ER (tokOf ct).1 (tokOf ct).2.1 (tokOf ct).2.2

/-- The duties device `c` pays. -/
def dues (c : Dev nD) : sProp 𝕄 :=
  iprop(all3 (fun i => dutyTok ER (bar (peer c i)) 0 i.rev)
    ∗ all3 (fun l => iprop(all3 (toks (F := F) c 0 1 l.val) ∗ all3 (toks (F := F) c 2 3 l.val))))

theorem dues_eq (c : Dev nD) : (bigSep Finset.univ fun t : Tk => tok (F := F) (payAt (c, t))) ⊢ (dues c : sProp 𝕄) := by
  unfold dues
  rw [bigSep_univ_prod, sep_option, bigSep_univ_prod, sep3, sep3]
  refine sep_mono_right ?_
  have h : ∀ l : Fin 3, (bigSep Finset.univ fun a : Fin 4 => bigSep Finset.univ fun i : Fin 3 => tok (F := F) (payAt (c, some (l, a), i)))
      ⊢ (iprop(all3 (toks (F := F) c 0 1 l.val) ∗ all3 (toks (F := F) c 2 3 l.val)) : sProp 𝕄) := fun l => by
    rw [sep4, sep3, sep3, sep3, sep3]
    iintro ⟨H0, H1, H2, H3⟩
    isplitl [H0 H1]
    · iapply (zip3 (fun i => dutyTok ER (ch c 0 i) l.val 0) (fun i => dutyTok ER (ch (peer c i) 1 i.rev) l.val 0))
      isplitl [H0]; · iexact H0
      iexact H1
    · iapply (zip3 (fun i => dutyTok ER (ch c 2 i) l.val 0) (fun i => dutyTok ER (ch (peer c i) 3 i.rev) l.val 0))
      isplitl [H2]; · iexact H2
      iexact H3
  exact BI.sep_mono (h 0) (BI.sep_mono (h 1) (h 2))

/-- The duties as minted, exchanged. -/
theorem deal : (bigSep Finset.univ fun c : Dev nD => bigSep Finset.univ fun t : Tk => tok (F := F) (c, t)) ⊢ (bigSep Finset.univ dues : sProp 𝕄) := by
  rw [← bigSep_univ_prod (fun ct : Dev nD × Tk => tok (F := F) ct), bigSep_univ_equiv payEquiv, bigSep_univ_prod]
  exact bigSep_mono fun c _ => dues_eq c

/-! ## The global step -/

variable (V : Vals F)

def cells : Finset (GSem nD τ sig) := Finset.univ.map ⟨kcell, kcell_injective⟩
def mints : Finset (GSem nD τ sig × ℕ × Fin 3) := Finset.univ.map ⟨tokOf, tokOf_injective⟩

/-- The launch's ghost state: the pipeline's, and the exchange's. -/
def u₀ : UU :=
  (initOf (Pipeline.cells cfgs cellOf_inj) (Pipeline.launchToks cfgs cellOf_inj), (initOf cells mints, 1))

theorem own_u₀ : (ownU u₀ : sProp 𝕄)
    ⊢ iprop(BI.own (EP (initOf (Pipeline.cells cfgs cellOf_inj) (Pipeline.launchToks cfgs cellOf_inj))) ∗ BI.own (ER (initOf cells mints))) :=
  BI.own_op_elim ((uEmb (nD := nD) (sig := sig) (Ix := ℕ) (Val := Elt F) (Name := ℕ) (U := UU) (Lvl := ℕ)).toEmb.op_of_mem
    (Prod.mk_mem_op (URA.mem_op_one _) (URA.mem_one_op (initOf cells mints, (1 : Counters)))))

/-- What the launch deals device `c`. -/
def G (c : Dev nD) : sProp 𝕄 :=
  iprop((bigSep Finset.univ fun k : CK => roundState ER (Rd V) (kcell (c, k)) 0)
    ∗ (bigSep Finset.univ fun k : CK => reached ER (kcell (c, k)) 0) ∗ (bigSep Finset.univ fun k : CK => atPos ER (kcell (c, k)) 0 ∅ 0)
    ∗ bigSep Finset.univ fun t : Tk => tok (c, t))

theorem fund_cells : BI.own (ER (initOf cells mints)) ⊢ (|==> bigSep Finset.univ (G V) : sProp 𝕄) := by
  have hc (Φ : GSem nD τ sig → sProp 𝕄) : bigSep cells Φ = bigSep Finset.univ fun c : Dev nD => bigSep Finset.univ fun k : CK => Φ (kcell (c, k)) := by
    unfold cells; rw [bigSep_map, bigSep_univ_prod]; rfl
  have ht : bigSep mints (fun x => (dutyTok ER x.1 x.2.1 x.2.2 : sProp 𝕄)) = bigSep Finset.univ fun c : Dev nD => bigSep Finset.univ fun t : Tk => tok (c, t) := by
    unfold mints; rw [bigSep_map, bigSep_univ_prod]; rfl
  refine (Rounds.fund ER (Rd V) cells mints).trans (BI.bupd_mono ?_)
  rw [hc, hc, hc, ht]
  unfold G; simp only [bigSep_sep']
  exact BI.Entails.refl _

/-- The cells' invariants and that all are at round 0. -/
def shared (K : Dev nD × CK → ℕ) : sProp 𝕄 :=
  iprop((bigSep Finset.univ fun ck : Dev nD × CK => cellInv ER (Rd V) (K ck) (kcell ck))
    ∗ bigSep Finset.univ fun ck : Dev nD × CK => reached ER (kcell ck) 0)

instance shared_persistent (K : Dev nD × CK → ℕ) : BI.Persistent (shared V K) := by unfold shared; infer_instance

/-- What device `c` alone has: its positions, its dues, the semaphores of the weights. -/
def mine (c : Dev nD) : sProp 𝕄 :=
  iprop((bigSep Finset.univ fun k : CK => atPos ER (kcell (c, k)) 0 ∅ 0) ∗ dues c
    ∗ semVal ((c : Thread nD τ), .dma wS0) 0 ∗ semVal ((c : Thread nD τ), .dma wS1) 0)

/-- What device `c` gets of the launch. -/
def G' (c : Dev nD) : sProp 𝕄 := iprop(∃ K, shared V K ∗ mine c)

/-- The invariants of a device's cells. -/
theorem alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k : CK => iprop(∃ κ : ℕ, cellInv ER (Rd V) κ (kcell (c, k))))
          ∗ (bigSep Finset.univ fun k : CK => reached ER (kcell (c, k)) 0) ∗ (bigSep Finset.univ fun k : CK => atPos ER (kcell (c, k)) 0 ∅ 0)
          ∗ (bigSep Finset.univ fun t : Tk => tok (c, t))
          ∗ semVal ((c : Thread nD τ), .dma wS0) 0 ∗ semVal ((c : Thread nD τ), .dma wS1) 0) := by
  unfold G
  iintro ⟨Hos, Hus, Hst, Hr, Hat, Htok⟩
  ihave Hv := (sems0_eq (F := F) c).1 $$ [Hos Hus]
  · isplitl [Hos]; · iexact Hos
    iexact Hus
  icases Hv with ⟨Hv, W⟩
  imod (show iprop((bigSep Finset.univ fun k : CK => semVal (kcell (c, k)) 0) ∗ bigSep Finset.univ fun k : CK => roundState ER (Rd V) (kcell (c, k)) 0)
      ⊢ (|={Set.univ}=> bigSep Finset.univ fun k : CK => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact W

theorem regroup :
    (bigSep Finset.univ fun c : Dev nD => iprop((bigSep Finset.univ fun k : CK => iprop(∃ κ : ℕ, cellInv ER (Rd V) κ (kcell (c, k))))
          ∗ (bigSep Finset.univ fun k : CK => reached ER (kcell (c, k)) 0) ∗ (bigSep Finset.univ fun k : CK => atPos ER (kcell (c, k)) 0 ∅ 0)
          ∗ (bigSep Finset.univ fun t : Tk => tok (c, t))
          ∗ semVal ((c : Thread nD τ), .dma wS0) 0 ∗ semVal ((c : Thread nD τ), .dma wS1) 0) : sProp 𝕄)
      ⊢ bigSep Finset.univ (G' V) := by
  rw [bigSep_sep', bigSep_sep', bigSep_sep', bigSep_sep', ← bigSep_univ_prod (fun ck : Dev nD × CK => iprop(∃ κ : ℕ, cellInv ER (Rd V) κ (kcell ck))),
    ← bigSep_univ_prod (fun ck : Dev nD × CK => (reached ER (kcell ck) 0 : sProp 𝕄))]
  have hm : iprop((bigSep Finset.univ fun c : Dev nD => bigSep Finset.univ fun k : CK => atPos ER (kcell (c, k)) 0 ∅ 0) ∗ bigSep Finset.univ dues
      ∗ bigSep Finset.univ fun c : Dev nD => iprop(semVal ((c : Thread nD τ), .dma wS0) 0 ∗ semVal ((c : Thread nD τ), .dma wS1) 0))
      = (bigSep Finset.univ mine : sProp 𝕄) := by
    unfold mine; simp only [bigSep_sep']
  iintro ⟨HI, #HR, Hat, Htok, HW⟩
  ihave HK := (BI.bigSep_exists_pi Finset.univ (fun (ck : Dev nD × CK) (κ : ℕ) => (cellInv ER (Rd V) κ (kcell ck) : sProp 𝕄))) $$ HI
  icases HK with ⟨%K, #HI⟩
  ihave Hd := (deal (F := F)) $$ Htok
  iapply (with_shared (R := shared V K) (Φ := mine) fun c _ => by
    unfold G'; iintro ⟨#HS, HM⟩; iexists K
    isplitr; · iexact HS
    iexact HM)
  isplitr
  · unfold shared
    isplitr; · iexact HI
    iexact HR
  iapply (Entails.of_eq hm)
  isplitl [Hat]; · iexact Hat
  isplitl [Hd]; · iexact Hd
  iexact HW

theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => alloc V c).trans (bigSep_fupd _ _)).trans (BI.fupd_mono (regroup V))

/-! ## The credit -/

/-- A unit every device owes its peer `i` is credit every device has. -/
theorem credit_around (k : CK) (r n : ℕ) (i : Fin 3) (c : Dev nD) :
    (Pipeline.launchCred (fun d => tallyAt (kcell (peer d i, k)) r n) c : sProp 𝕄) ⊢ cred (tallyAt (kcell (c, k)) r n) := by
  refine (Pipeline.launchCred_elim _ c (csem k)).trans (Entails.of_eq ?_)
  show cred (tallyOn (kcell (c, k)) _) = cred (tallyOn (kcell (c, k)) _)
  congr 2
  ext u
  rw [Pipeline.launchCredit_owing, Finset.sum_congr rfl fun d _ => tallyAt_apply (kcell (peer d i, k)) r n (kcell (c, k)) u,
    Finset.sum_eq_single (peer c i.rev)]
  · rw [peer_rev']
    by_cases h : u = r
    · rw [if_pos ⟨rfl, h⟩, h, Finsupp.single_eq_same]
    · rw [if_neg fun h' => h h'.2, Finsupp.single_eq_of_ne h]
  · intro d _ hd
    refine if_neg fun h => hd ?_
    have h1 : c = peer d i := (Prod.mk.inj (kcell_injective h.1)).1
    rw [h1, peer_rev]
  · exact fun h => absurd (Finset.mem_univ _) h

/-- The credit a device gets for its peers' payments. -/
def Pay.due (c : Dev nD) : Pay → CellTallies nD τ sig ℕ
  | .bar _ => tallyAt (Mesh.bar c) 0 1
  | .ag l i => tallyAt (ch c 1 i.rev) l N
  | .rs l i => tallyAt (ch c 3 i.rev) l N

def due (c : Dev nD) : List Pay → sProp 𝕄
  | [] => iprop(emp)
  | p :: ps => iprop(due c ps ∗ cred (p.due c))

theorem credits (c : Dev nD) : ∀ ps : List Pay, (Pipeline.launchCred (fun d => owing d ps) c : sProp 𝕄) ⊢ due c ps
  | [] => (Entails.of_eq (Pipeline.launchCred_zero c))
  | p :: ps => by
    show (Pipeline.launchCred (fun d => owing d ps + p.tally d) c : sProp 𝕄) ⊢ _
    rw [Pipeline.launchCred_add]
    refine BI.sep_mono (credits c ps) ?_
    cases p with
    | bar i => exact credit_around none 0 1 i c
    | ag l i => exact credit_around (some (1, i.rev)) l N i c
    | rs l i => exact credit_around (some (3, i.rev)) l N i c

theorem barCredit (c : Dev nD) : iprop(cred (tallyAt (bar c) 0 1) ∗ cred (tallyAt (bar c) 0 1) ∗ cred (tallyAt (bar c) 0 1)) ⊢ (cred (tallyAt (bar c) 0 3) : sProp 𝕄) := by
  have h : ∀ a b : ℕ, (tallyAt (bar c) 0 (a + b) : CellTallies nD τ sig ℕ) = tallyAt (bar c) 0 a + tallyAt (bar c) 0 b := fun a b => by
    unfold tallyAt; rw [Finsupp.single_add, tallyOn_add]
  have h3 : (tallyAt (bar c) 0 3 : CellTallies nD τ sig ℕ) = tallyAt (bar c) 0 1 + (tallyAt (bar c) 0 1 + tallyAt (bar c) 0 1) := (h 1 2).trans (congrArg _ (h 1 1))
  rw [h3]
  exact (sep_mono_right (cred_add _ _).2).trans (cred_add _ _).2

/-! ## The start -/

/-- A device's dues, what it owes and its credit are its stake. -/
theorem stake_intro (c : Dev nD) :
    iprop(dues c ∗ Pipeline.launchCred (fun d => owing d pays) c ∗ ow c pays) ⊢ (stake c : sProp 𝕄) := by
  unfold dues stake supply
  iintro ⟨⟨TB, ⟨T0, U0⟩, ⟨T1, U1⟩, ⟨T2, U2⟩⟩, HC, HO⟩
  ihave HC := (credits c pays) $$ HC
  simp only [due, Pay.due]
  icases HC with ⟨⟨⟨⟨⟨⟨⟨⟨⟨⟨⟨⟨⟨⟨⟨⟨⟨⟨⟨⟨⟨-, R20⟩, R22⟩, R21⟩, A20⟩, A22⟩, A21⟩, R10⟩, R12⟩, R11⟩, A10⟩, A12⟩, A11⟩, R00⟩, R02⟩, R01⟩, A00⟩, A02⟩, A01⟩, B2⟩, B1⟩, B0⟩
  isplitl [HO]; · iexact HO
  isplitl [B0 B1 B2]
  · iapply (barCredit c)
    isplitl [B0]; · iexact B0
    isplitl [B1]; · iexact B1
    iexact B2
  isplitl [TB]; · iexact TB
  isplitl [T0 U0 A00 A01 A02 R00 R01 R02]
  · isplitl [T0]; · iexact T0
    isplitl [U0]; · iexact U0
    isplitl [A00 A01 A02]
    · isplitl [A00]; · iexact A00
      isplitl [A01]; · iexact A01
      iexact A02
    isplitl [R00]; · iexact R00
    isplitl [R01]; · iexact R01
    iexact R02
  isplitl [T1 U1 A10 A11 A12 R10 R11 R12]
  · isplitl [T1]; · iexact T1
    isplitl [U1]; · iexact U1
    isplitl [A10 A11 A12]
    · isplitl [A10]; · iexact A10
      isplitl [A11]; · iexact A11
      iexact A12
    isplitl [R10]; · iexact R10
    isplitl [R11]; · iexact R11
    iexact R12
  isplitl [T2]; · iexact T2
  isplitl [U2]; · iexact U2
  isplitl [A20 A21 A22]
  · isplitl [A20]; · iexact A20
    isplitl [A21]; · iexact A21
    iexact A22
  isplitl [R20]; · iexact R20
  isplitl [R21]; · iexact R21
  iexact R22

/-- The positions of all cells of a device. -/
theorem positions_eq (c : Dev nD) (b l : ℕ) : (iprop(atPos ER (bar c) b ∅ 0 ∗ bigSep Finset.univ fun ai : Fin 4 × Fin 3 => atPos ER (ch c ai.1 ai.2) l ∅ 0) : sProp 𝕄)
    = positions c b l := by
  unfold positions
  rw [bigSep_univ_prod, sep4, sep3, sep3, sep3, sep3]

theorem positions_start (c : Dev nD) : (bigSep Finset.univ fun k : CK => (atPos ER (kcell (c, k)) 0 ∅ 0 : sProp 𝕄)) = positions c 0 0 := by
  rw [sep_option, ← positions_eq]

/-- At the end every cell closes. -/
theorem close_all (K : Dev nD × CK → ℕ) (c : Dev nD) :
    iprop(env V K ∗ positions c 1 3) ⊢ (|={Set.univ}=> bigSep Finset.univ fun k : CK => semVal (kcell (c, k)) 0 : sProp 𝕄) := by
  rw [← positions_eq]
  have hb : iprop(env V K ∗ atPos ER (bar c) 1 ∅ 0) ⊢ (|={Set.univ}=> semVal (bar c) 0 : sProp 𝕄) :=
    (sep_mono_left (env_inv V K c none)).trans (Rounds.cell_close ER (Rd V) (Set.mem_univ _) (fun h => h) (R := 1) (duties_bar_later V c))
  have hc : ∀ ai : Fin 4 × Fin 3, iprop(env V K ∗ atPos ER (ch c ai.1 ai.2) 3 ∅ 0) ⊢ (|={Set.univ}=> semVal (ch c ai.1 ai.2) 0 : sProp 𝕄) := fun ai =>
    (sep_mono_left (env_inv V K c (some ai))).trans (Rounds.cell_close ER (Rd V) (Set.mem_univ _) (fun h => h) (R := 3) (duties_ch_later V c ai.1 ai.2))
  rw [sep_option]
  iintro ⟨#He, Hb, Ha⟩
  imod hb $$ [Hb] with Hb
  · isplitr; · iexact He
    iexact Hb
  imod ((with_shared (R := env V K) fun ai _ => hc ai).trans (bigSep_fupd _ _)) $$ [Ha] with Ha
  · isplitr; · iexact He
    iexact Ha
  imodintro
  isplitl [Hb]; · iexact Hb
  iexact Ha

end Cert.KernelIdeal.Mesh

end
-- ==== Proof.Run.lean ====
/-
# The run of the program

The body's run put into the pipeline's datum, the launch, and what every final state holds: on each device the result
named by the exchange's values, the arguments as they were, every semaphore at zero.
-/
module

public import proofs.«01_k».proof.Proof.Launch
public import Idealize.ShloMosaic.Lib.Pipeline.CollectiveSegs

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## Whole buffers -/

section Whole
variable (c : Dev nD)

theorem owns_whole (b : Ref sig .tc) (X : b.ty.Contents (Elt F)) :
    (owns (c : Thread nD τ) (Memref.whole b) fullShare X : sProp 𝕄) ⊣⊢ (((c : Thread nD τ).loc b) ↦{fullShare} X) := by
  unfold owns; simp only [Memref.view_whole, View.read_whole, View.set_whole]
  constructor
  · iintro ⟨%f, %hf, H⟩; subst hf; iexact H
  · iintro H; iexists X
    isplitr; · ipureintro; rfl
    iexact H

theorem any_whole (b : Ref sig .tc) : (iprop(∃ X, owns (c : Thread nD τ) (Memref.whole b) fullShare X) : sProp 𝕄)
    ⊣⊢ iprop(∃ f : Buf (Elt F) ((c : Thread nD τ).loc b), ((c : Thread nD τ).loc b) ↦{fullShare} f) := by
  constructor
  · iintro ⟨%X, H⟩; iexists X; iapply (owns_whole c b X).1; iexact H
  · iintro ⟨%X, H⟩; iexists X; iapply (owns_whole c b X).2; iexact H

/-- An array of four blocks is the stack of its blocks. -/
theorem stack_of (X : S4x64x1024.Idx → Elt F .bf16) :
    ∃ Y : Fin 4 → Blk F, stack Y = X :=
  ⟨fun s j => X (fun a => match a with | ⟨0, _⟩ => s | ⟨1, _⟩ => j 0 | ⟨2, _⟩ => j 1), funext fun i => congrArg X (funext fun a => by fin_cases a <;> rfl)⟩

/-- A buffer of four blocks is its slots, each at anything. -/
theorem slots_any (A : Memref sig .tc .vmem S4x64x1024 .bf16) :
    (iprop(∃ X, owns (c : Thread nD τ) A fullShare X) : sProp 𝕄) ⊣⊢ iprop(anyBlk c (slotOf A 0) ∗ all3 (fun i => anyBlk c (slotOf A i.succ))) := by
  constructor
  · iintro ⟨%X, H⟩
    obtain ⟨Y, rfl⟩ := stack_of X
    ihave H := (stack_split c A fullShare Y).1 $$ H
    icases H with ⟨H0, H1, H2, H3⟩
    isplitl [H0]; · iapply (any_intro c); iexact H0
    isplitl [H1]; · iapply (any_intro c); iexact H1
    isplitl [H2]; · iapply (any_intro c); iexact H2
    iapply (any_intro c); iexact H3
  · unfold anyBlk
    iintro ⟨⟨%Y0, H0⟩, ⟨%Y1, H1⟩, ⟨%Y2, H2⟩, ⟨%Y3, H3⟩⟩
    iexists stack (fun t => match t with | 0 => Y0 | 1 => Y1 | 2 => Y2 | 3 => Y3)
    iapply (stack_split c A fullShare _).2
    isplitl [H0]; · iexact H0
    isplitl [H1]; · iexact H1
    isplitl [H2]; · iexact H2
    iexact H3

theorem rows_any :
    (iprop(∃ X, owns (c : Thread nD τ) pmM fullShare X) : sProp 𝕄) ⊢ iprop(anyBlk c (rowsOf 0) ∗ anyBlk c (rowsOf 1) ∗ anyBlk c (rowsOf 2) ∗ anyBlk c (rowsOf 3)) := by
  iintro ⟨%X, H⟩
  ihave H := (pm_split c X).1 $$ H
  icases H with ⟨H0, H1, H2, H3⟩
  isplitl [H0]; · iapply (any_intro c); iexact H0
  isplitl [H1]; · iapply (any_intro c); iexact H1
  isplitl [H2]; · iapply (any_intro c); iexact H2
  iapply (any_intro c); iexact H3

/-- The scratch buffers as the launch hands them over and takes them back. -/
theorem scratch_eq :
    iprop(Pipeline.scopedRest spec0 c ∗ semVal ((c : Thread nD τ), .dma wS0) 0 ∗ semVal ((c : Thread nD τ), .dma wS1) 0) ⊣⊢ (scratch c : sProp 𝕄) := by
  rw [scopedRest0_eq]
  unfold scratch
  constructor
  · iintro ⟨⟨B0, B1, B2, B3, B4, B5, B6⟩, V0, V1⟩
    isplitl [B0]; · iapply (slots_any c xgM).1; iapply (any_whole c cc0_scratch0).2; iexact B0
    isplitl [B1]; · iapply (slots_any c pgM).1; iapply (any_whole c cc0_scratch1).2; iexact B1
    isplitl [B2]; · iapply (rows_any c); iapply (any_whole c cc0_scratch2).2; iexact B2
    isplitl [B3]; · iapply (any_whole c cc0_scratch3).2; iexact B3
    isplitl [B4]; · iapply (any_whole c cc0_scratch4).2; iexact B4
    isplitl [B5]; · iapply (any_whole c cc0_scratch5).2; iexact B5
    isplitl [B6]; · iapply (any_whole c cc0_scratch6).2; iexact B6
    isplitl [V0]; · iexact V0
    iexact V1
  · iintro ⟨B0, B1, B2, B3, B4, B5, B6, V0, V1⟩
    isplitr [V0 V1]
    · isplitl [B0]; · iapply (any_whole c cc0_scratch0).1; iapply (slots_any c xgM).2; iexact B0
      isplitl [B1]; · iapply (any_whole c cc0_scratch1).1; iapply (slots_any c pgM).2; iexact B1
      isplitl [B2]; · iapply (any_whole c cc0_scratch2).1; iapply (pm_join c); iexact B2
      isplitl [B3]; · iapply (any_whole c cc0_scratch3).1; iexact B3
      isplitl [B4]; · iapply (any_whole c cc0_scratch4).1; iexact B4
      isplitl [B5]; · iapply (any_whole c cc0_scratch5).1; iexact B5
      iapply (any_whole c cc0_scratch6).1; iexact B6
    isplitl [V0]; · iexact V0
    iexact V1

end Whole

/-! ## The pipeline's datum -/

variable (m : (ℓ : Loc nD τ sig) → Buf (Elt F) ℓ) (ρ : Dev nD → PrngReg)

/-- The arguments in memory. -/
def ins : Ins F where
  x c := m ((c : Thread nD τ).loc main_arg0)
  wi l c := match l with
    | 0 => m ((c : Thread nD τ).loc main_arg1)
    | 1 => m ((c : Thread nD τ).loc main_arg2)
    | _ => m ((c : Thread nD τ).loc main_arg3)
  wo l c := match l with
    | 0 => m ((c : Thread nD τ).loc main_arg4)
    | 1 => m ((c : Thread nD τ).loc main_arg5)
    | _ => m ((c : Thread nD τ).loc main_arg6)

/-- The weights in memory, as the launch holds them. -/
theorem weights_eq (c : Dev nD) :
    (Pipeline.unscopedRest spec0 c (fun b => m ((c : Thread nD τ).loc b)) : sProp 𝕄) ⊣⊢ weights c (ins m) := by
  rw [unscopedRest0_eq]
  unfold weights
  constructor
  · iintro ⟨A1, A2, A3, A4, A5, A6⟩
    isplitl [A1 A4]
    · isplitl [A1]; · iapply (owns_whole c main_arg1 _).2; iexact A1
      iapply (owns_whole c main_arg4 _).2; iexact A4
    isplitl [A2 A5]
    · isplitl [A2]; · iapply (owns_whole c main_arg2 _).2; iexact A2
      iapply (owns_whole c main_arg5 _).2; iexact A5
    isplitl [A3]; · iapply (owns_whole c main_arg3 _).2; iexact A3
    iapply (owns_whole c main_arg6 _).2; iexact A6
  · iintro ⟨⟨A1, A4⟩, ⟨A2, A5⟩, A3, A6⟩
    isplitl [A1]; · iapply (owns_whole c main_arg1 _).1; iexact A1
    isplitl [A2]; · iapply (owns_whole c main_arg2 _).1; iexact A2
    isplitl [A3]; · iapply (owns_whole c main_arg3 _).1; iexact A3
    isplitl [A4]; · iapply (owns_whole c main_arg4 _).1; iexact A4
    isplitl [A5]; · iapply (owns_whole c main_arg5 _).1; iexact A5
    iapply (owns_whole c main_arg6 _).1; iexact A6

/-- What a device has at the start besides its scratch buffers, -/
def start (c : Dev nD) : sProp 𝕄 :=
  iprop(G' (vals (ins m)) c ∗ levAts L lv ∗ Pipeline.launchCred (fun d => owing d pays) c ∗ weights c (ins m))
def Φ₀ (c : Dev nD) : sProp 𝕄 := iprop(start m c ∗ Pipeline.scopedRest spec0 c)
/-- and at the end. -/
def Φ₁ (c : Dev nD) : sProp 𝕄 :=
  iprop((unscopedSems0 c ∗ weights c (ins m)) ∗ Pipeline.ownSems0 osem c ∗ Pipeline.scopedRest spec0 c)

def dats (_ : Fin 1) (c : Dev nD) : Dat τ (Elt F) ℕ ℕ UU ℕ cfg0 c where
  A w := m ((cfg0.win w).arr.view.loc (c : Thread nD τ))
  after w _ := match w with
    | ⟨0, _⟩ => (ins m).x c
    | ⟨1, _⟩ => result (ins m) c
  Φ t := match t with
    | ⟨0, _⟩ => Φ₀ m c
    | ⟨_ + 1, _⟩ => Φ₁ m c
  q _ := fullShare
  owed t := match t with
    | ⟨0, _⟩ => owing c pays
    | ⟨_ + 1, _⟩ => 0

theorem read_x (c : Dev nD) : (win0_0.blk (0 : Fin 1)).view.read (Elt F) (m ((c : Thread nD τ).loc main_arg0)) = (ins m).x c :=
  Memref.read_access_unit_zero (Elt F) main_arg0 (funext fun a => by fin_cases a <;> decide) (fun a => by fin_cases a <;> decide) _

theorem before_x (c : Dev nD) (d) : (dats m 0 c).before (0 : Fin 2) t0_0 d = (ins m).x c := by
  unfold Dat.before; rw [if_pos (fetch0_0 t0_0)]; exact read_x m c

def bodyPre (c : Dev nD) : sProp 𝕄 :=
  iprop(Φ₀ m c ∗ (dats m 0 c).owesAt 0 t0_0.castSucc
    ∗ (∃ d, owns (c : Thread nD τ) (win0_0.stage (cfg0.slots t0_0 0)) fullShare ((dats m 0 c).before (0 : Fin 2) t0_0 d))
    ∗ (∃ d, owns (c : Thread nD τ) (win0_1.stage (cfg0.slots t0_0 1)) fullShare ((dats m 0 c).before (1 : Fin 2) t0_0 d)))
def bodyPost (c : Dev nD) : sProp 𝕄 :=
  iprop(Φ₁ m c ∗ (dats m 0 c).owesAt 0 t0_0.succ
    ∗ owns (c : Thread nD τ) (win0_0.stage (cfg0.slots t0_0 0)) fullShare ((ins m).x c)
    ∗ owns (c : Thread nD τ) (win0_1.stage (cfg0.slots t0_0 1)) fullShare (result (ins m) c))

set_option maxRecDepth 8000 in
set_option maxHeartbeats 1000000 in
/-- The body at the one point. -/
theorem body_point (c : Dev nD) : bodyPre m c ⊢ WP c (bodyAt0 t0_0) (fun _ => bodyPost m c) := by
  unfold bodyPre Φ₀ start G' mine shared Dat.owesAt Pipeline.owesWithin
  iintro ⟨⟨⟨⟨%K, ⟨#HI, #HR⟩, Hat, Hd, W0, W1⟩, #HL, HC, HW⟩, HS⟩, ⟨%W, %hW, HO⟩, ⟨%d0, Hx⟩, ⟨%d1, Hy⟩⟩
  ihave Hx := (Entails.of_eq (congrArg (owns (c : Thread nD τ) (win0_0.stage (cfg0.slots t0_0 0)) fullShare) (before_x m c d0))) $$ Hx
  ihave #He := (show iprop(((bigSep Finset.univ fun ck : Dev nD × CK => cellInv ER (Rd (vals (ins m))) (K ck) (kcell ck))
      ∗ bigSep Finset.univ fun ck : Dev nD × CK => reached ER (kcell ck) 0) ∗ levAts L lv) ⊢ env (vals (ins m)) K from by
    unfold env; iintro ⟨⟨H1, H2⟩, H3⟩
    isplitl [H1]; · iexact H1
    isplitl [H2]; · iexact H2
    iexact H3) $$ []
  · isplitr
    · isplitr; · iexact HI
      iexact HR
    iexact HL
  ihave HSt := (stake_intro (F := F) c) $$ [Hd HC HO]
  · isplitl [Hd]; · iexact Hd
    isplitl [HC]; · iexact HC
    unfold ow; iexists W; iexact HO
  ihave HP := (Entails.of_eq (positions_start (F := F) c)) $$ Hat
  ihave HS := (scratch_eq (F := F) c).1 $$ [HS W0 W1]
  · isplitl [HS]; · iexact HS
    isplitl [W0]; · iexact W0
    iexact W1
  iapply (wp_fupd _ _ _ (bodyAt0 t0_0) fun _ => bodyPost m c)
  iapply (body_run K c (ins m) (win0_0.stage (cfg0.slots t0_0 0)) (win0_1.stage (cfg0.slots t0_0 1)) (hstage0_0 0) (hstage0_1 0)) $$ [HSt HP HS HW Hx Hy]
  · isplitr; · iexact He
    isplitl [HSt]; · iexact HSt
    isplitl [HP]; · iexact HP
    isplitl [HS]; · iexact HS
    isplitl [HW]; · iexact HW
    isplitl [Hx]; · iexact Hx
    iexists _; iexact Hy
  iintro ⟨HO, HP, HS, HW, Hx, Hy⟩
  imod (close_all (vals (ins m)) K c) $$ [HP] with HZ
  · isplitr; · iexact He
    iexact HP
  imodintro
  ihave HS := (scratch_eq (F := F) c).2 $$ HS
  icases HS with ⟨HS, W0, W1⟩
  ihave HZ := (sems0_eq (F := F) c).2 $$ [HZ W0 W1]
  · isplitl [HZ]; · iexact HZ
    isplitl [W0]; · iexact W0
    iexact W1
  icases HZ with ⟨HZ, HU⟩
  unfold bodyPost Φ₁ Dat.owesAt Pipeline.owesWithin ow
  icases HO with ⟨%W', HO⟩
  isplitl [HS HW HZ HU]
  · isplitl [HU HW]
    · isplitl [HU]; · iexact HU
      iexact HW
    isplitl [HZ]; · iexact HZ
    iexact HS
  isplitl [HO]
  · iexists W'
    isplitr; · ipureintro; exact fun _ _ => Or.inl trivial
    iexact HO
  isplitl [Hx]; · iexact Hx
  iexact Hy

set_option maxRecDepth 8000 in
/-- The library's obligation on the body. -/
theorem body_obligation (c : Dev nD) : BodyObligation (dats m 0 c) (defs₀ (F := F)) Variants.none (0 : ℕ) Set.univ := fun t => by
  rw [fin_N0 t, bigSep_W0, bigSep_W0]
  exact body_point m c

/-! ## The launch's conditions -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) 0 0 c :=
  Pipeline.cellsWaits_intro cfgs (dats m) 0 0 c fun w s t => by
    have h0 : ∀ p ∈ pays, lv ((c : Thread nD τ), .dma ((cfg0.win w).sem s)) 0 < p.lev ∧ p.rnd < 3 := by
      have : lv ((c : Thread nD τ), .dma ((cfg0.win w).sem s)) 0 = 0 := by fin_cases w <;> fin_cases s <;> rfl
      rw [this]; decide
    rcases t with ⟨_ | _, ht⟩
    · exact mayWait c _ 0 (by decide) pays h0
    · exact mayWait c _ 0 (by decide) [] (fun _ h => absurd h List.not_mem_nil)

theorem start_intro (c : Dev nD) :
    iprop(Pipeline.unscopedRestP Pipeline.Prefetch.none cfg0.spec c (fun b => m ((c : Thread nD τ).loc b)) ∗ levAts L lv
        ∗ Pipeline.launchCred (fun d => owing d pays) c ∗ prngReg c (ρ c) ∗ G' (vals (ins m)) c)
      ⊢ |={Set.univ}=> iprop(start m c ∗ emp) := by
  rw [Pipeline.unscopedRestP_none]
  iintro ⟨HR, HL, HC, -, HG⟩
  imodintro
  isplitl
  · unfold start
    isplitl [HG]; · iexact HG
    isplitl [HL]; · iexact HL
    isplitl [HC]; · iexact HC
    iapply (weights_eq m c).1; iexact HR
  iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HS, -, HR⟩
  isplitl [HS]; · iexact HS
  iexact HR

/-- What a final state holds beside the windows' arrays. -/
def after (c : Dev nD) (s : MemSt nD τ sig (Elt F)) : Prop :=
  (s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6))
  ∧ ∀ sm : SemLoc sig, sm.isScoped .tc = false → s.sem ((c : Thread nD τ), sm) = 0

/-- A buffer held whole is what memory has there. -/
theorem read_whole (c : Dev nD) (b : Ref sig .tc) (f : Buf (Elt F) ((c : Thread nD τ).loc b)) (s : Phys nD τ sig (Elt F)) :
    iprop(SI s ∗ ((c : Thread nD τ).loc b) ↦{fullShare} f) ⊢ (⌜s.mem.mem ((c : Thread nD τ).loc b) = f⌝ : sProp 𝕄) :=
  SI_pointsTo_agree.trans (BI.pure_mono fun h => funext fun i => h i (Finset.mem_univ i))

theorem read_after (c : Dev nD) (s : Phys nD τ sig (Elt F)) :
    iprop((unscopedSems0 c ∗ weights c (ins m)) ∗ emp ∗ SI s) ⊢ |={Set.univ}=> iprop(⌜after m c s.mem⌝ ∗ SI s : sProp 𝕄) := by
  iintro ⟨⟨HU, HW⟩, -, HSI⟩
  ihave HW := (weights_eq m c).2 $$ HW
  ihave HW := (Entails.of_eq (unscopedRest0_eq c _)) $$ HW
  icases HW with ⟨A1, A2, A3, A4, A5, A6⟩
  ihave %h1 := (read_whole c main_arg1 _ s) $$ [HSI A1]; · isplitl [HSI] <;> iassumption
  ihave %h2 := (read_whole c main_arg2 _ s) $$ [HSI A2]; · isplitl [HSI] <;> iassumption
  ihave %h3 := (read_whole c main_arg3 _ s) $$ [HSI A3]; · isplitl [HSI] <;> iassumption
  ihave %h4 := (read_whole c main_arg4 _ s) $$ [HSI A4]; · isplitl [HSI] <;> iassumption
  ihave %h5 := (read_whole c main_arg5 _ s) $$ [HSI A5]; · isplitl [HSI] <;> iassumption
  ihave %h6 := (read_whole c main_arg6 _ s) $$ [HSI A6]; · isplitl [HSI] <;> iassumption
  imod (Pipeline.unscopedSems0_read (X := unscopedSems0 c) (c := c) fupd_intro s) $$ [HU HSI] with ⟨%hs, HSI⟩
  · isplitl [HU] <;> iassumption
  imodintro
  isplitr; · ipureintro; exact ⟨⟨h1, h2, h3, h4, h5, h6⟩, hs⟩
  iexact HSI

/-! ## The run -/

/-- The input's array at the end. -/
theorem final_x (c : Dev nD) : (dats m 0 c).arrAt (0 : Fin 2) cfg0.N = m ((c : Thread nD τ).loc main_arg0) :=
  (dats m 0 c).arrAt_in (0 : Fin 2) rfl _

/-- The result's array at the end. -/
theorem final_o (c : Dev nD) : (dats m 0 c).arrAt (1 : Fin 2) cfg0.N = result (ins m) c := by
  have hz : (fun a => (win0_1.index (0 : Fin 1)) a * main_v1.ty.shape.size a) = fun _ => 0 := funext fun a => by fin_cases a <;> decide
  rw [← show (win0_1.blk (0 : Fin 1)).view.read (Elt F) ((dats m 0 c).arrAt (1 : Fin 2) cfg0.N) = (dats m 0 c).arrAt (1 : Fin 2) cfg0.N
    from Memref.read_access_unit_zero (Elt F) main_v1 hz (fun a => by fin_cases a <;> decide) _]
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- What a final state holds, device by device: the result, and the arguments as they were. -/
def final (c : Dev nD) (s : MemSt nD τ sig (Elt F)) : Prop :=
  s.mem ((c : Thread nD τ).loc main_v1) = result (ins m) c ∧ s.mem ((c : Thread nD τ).loc main_arg0) = m ((c : Thread nD τ).loc main_arg0) ∧ after m c s

set_option maxRecDepth 8000 in
/-- Every weakly fair execution of the program on the four devices, from any memory with zero counters, terminates; at the end every
    device holds its result and its arguments, and every semaphore is at zero. -/
theorem run_main : θ_run defs (onTc (τ := τ) (main (F := F))) ⟨m, fun _ => 0, ρ⟩ (fun r => (∀ c, final m c r.2) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ Variants.none m ρ main
    (hmain := fun _ => rfl) (hbody := body_obligation m) (hne := block_pos0) (harr := arr_whole0) (hstage := stage_whole0)
    (hshare := share_eq m) (hdistinct := winFacts0.arr_inj)
    (O₀ := fun d => owing d pays) (howed₀ := fun _ => rfl) (howedN := fun _ => rfl)
    (L := L) (lv := lv) (hL := L_of_ne) (hwaits := waits m)
    (G := G (vals (ins m))) (G' := G' (vals (ins m))) (u₀ := u₀)
    (hu₀ := by
      iintro Hu
      ihave Hu := own_u₀ $$ Hu
      icases Hu with ⟨HP, HX⟩
      imod (fund_cells (vals (ins m))) $$ HX with HG
      imodintro
      isplitl [HP] <;> iassumption)
    (hglob := glob (vals (ins m)))
    (hA := fun _ _ => rfl) (hpf := fun _ k => k.elim0)
    (X := start m) (Y := fun c => iprop(unscopedSems0 c ∗ weights c (ins m))) (Z := fun _ => iprop(emp))
    (hX := start_intro m ρ) (hin := enter m) (hout := fun c => Entails.of_eq rfl)
    (QY := after m) (hY := read_after m)
    (hQ := fun s h hs => ⟨fun c => ⟨((h c).1 (1 : Fin 2)).trans (final_o m c), ((h c).1 (0 : Fin 2)).trans (final_x m c), (h c).2.2⟩,
      sem_eq_zero hs fun c => (h c).2.2.2⟩)

end Cert.KernelIdeal.Mesh

end
-- ==== Proof.Value.lean ====
/-
# The exchange's values at the extended reals

Over the extended reals a change of format is the identity, a product is the sum of products and the order of a sum is
free: a device's part of a layer is a sum over its own hidden units, and what it ends with is the sum of the four parts.
-/
module

public import proofs.«01_k».proof.Proof.Body
public import Idealize.ShloMosaic.Lib.MatmulPlain
public import Idealize.ShloMosaic.Lib.Pipeline.Value
public import Idealize.ShloMosaic.PureOps.Ideal.Laws

@[expose] public section

noncomputable section

namespace Cert.KernelIdeal.Mesh

open Cert.KernelIdeal Cert.KernelIdeal.Gen
open Idealize.ShloMosaic Idealize.ShloMosaic.ValueIdx
open scoped BigOperators

/-- A hidden unit of a row: the positive part of the row against the unit's weights. -/
def hidden {M N : ℕ} (x : Fin M → EReal) (w : (⟨2, ![M, N]⟩ : Shape).Idx → EReal) (k : Fin N) : EReal :=
  max (∑ j : Fin M, x j * w (ix2 j k)) 0

/-- A row through `N` hidden units, read at an output column. -/
def through {M N P : ℕ} (x : Fin M → EReal) (wi : (⟨2, ![M, N]⟩ : Shape).Idx → EReal) (wo : (⟨2, ![N, P]⟩ : Shape).Idx → EReal) (n : Fin P) : EReal :=
  ∑ k : Fin N, hidden x wi k * wo (ix2 k n)

/-- Row `r` of block `t` in the array of four blocks of rows. -/
def rowIx (t : Fin 4) (r : Fin 64) : Fin 256 := ⟨t.val * 64 + r.val, by omega⟩

/-- Block `t`'s row `r` of the two products over stacked blocks is that row of block `t` through the units. -/
theorem products_apply (v : S4x64x1024.Idx → EReal) (wi : S1024x2048.Idx → EReal) (wo : S2048x1024.Idx → EReal)
    (t : Fin 4) (r : Fin 64) (n : Fin 1024) :
    k0_pay9 (F := Ideal) v wi wo (ix2 (rowIx t r) n) = through (fun m => v (ix3 t r m)) wi wo n := by
  unfold k0_pay9 through hidden
  refine (Ideal.matmul_plain_apply (M := 256) (K := 2048) (N := 1024) none _ _ _ (rowIx t r) n).trans ?_
  refine (congrArg (· + _) Ideal.ofBits_zero_f32).trans ((zero_add _).trans (Finset.sum_congr rfl fun k _ => congrArg (· * wo (ix2 k n)) ?_))
  refine congrArg₂ max ((Ideal.matmul_plain_apply (M := 256) (K := 1024) (N := 2048) none _ _ _ (rowIx t r) k).trans ?_) Ideal.ofBits_zero_f32
  refine (congrArg (· + _) Ideal.ofBits_zero_f32).trans ((zero_add _).trans (Finset.sum_congr rfl fun j _ => congrArg (· * wi (ix2 j k)) ?_))
  refine shapeCast_apply v _ _ (ix3 t r j) ?_
  rw [Shape.rowMajor_val_three, Shape.rowMajor_val_two]
  show (t.val * 64 + r.val) * 1024 + j.val = (t.val * 64 + r.val) * 1024 + j.val
  rfl

/-- The four devices' terms, in the order a device adds them. -/
theorem sum_around (f : Dev nD → EReal) (c : Dev nD) : f c + f (peer c 2) + f (peer c 0) + f (peer c 1) = ∑ d, f d := by
  rw [show (∑ d, f d) = f 0 + f 1 + f 2 + f 3 from Fin.sum_univ_four f]
  fin_cases c
  · show f 0 + f 3 + f 1 + f 2 = _; abel
  · show f 1 + f 0 + f 2 + f 3 = _; abel
  · show f 2 + f 1 + f 3 + f 0 = _; abel
  · show f 3 + f 2 + f 0 + f 1 = _; abel

section Layer
variable (X : Dev nD → S64x1024.Idx → EReal) (wi : Dev nD → S1024x2048.Idx → EReal) (wo : Dev nD → S2048x1024.Idx → EReal)

/-- A device's block row `t` is the block it gathered there through its own units. -/
theorem part_apply (d : Dev nD) (t : Fin 4) (r : Fin 64) (n : Fin 1024) :
    part (F := Ideal) X wi wo d t (ix2 r n) = through (fun m => X (turn d t) (ix2 r m)) (wi d) (wo d) n := by
  unfold part
  have h : k0_pay11 (F := Ideal) (gathered (F := Ideal) X d) (wi d) (wo d) = (k0_pay9 (F := Ideal) (gathered (F := Ideal) X d) (wi d) (wo d) : S256x1024.Idx → EReal) :=
    shapeCast_self _ _
  rw [h]
  refine (congrArg (k0_pay9 (F := Ideal) (gathered (F := Ideal) X d) (wi d) (wo d)) (show _ = ix2 (rowIx t r) n from by
    funext a; match a with | ⟨0, _⟩ => rfl | ⟨1, _⟩ => rfl)).trans ?_
  refine (products_apply (gathered (F := Ideal) X d) (wi d) (wo d) t r n).trans ?_
  refine congrArg (fun x => through x (wi d) (wo d) n) (funext fun m => congrArg (X (turn d t)) ?_)
  funext a; match a with | ⟨0, _⟩ => rfl | ⟨1, _⟩ => rfl

/-- What a device gets from peer `i` is its own block through the peer's units. -/
theorem got_apply (c : Dev nD) (i : Fin 3) (r : Fin 64) (n : Fin 1024) :
    shapeCast S64x1024 (got (F := Ideal) X wi wo c i) shapeCasts_S1x64x1024_S64x1024 (ix2 r n)
      = through (fun m => X c (ix2 r m)) (wi (peer c i)) (wo (peer c i)) n := by
  rw [shapeCast_shapeCast, part_apply, turn_succ, peer_rev]

/-- A device's result of a layer: its block through every device's units. -/
theorem all4_apply (c : Dev nD) (r : Fin 64) (n : Fin 1024) :
    all4 (F := Ideal) X wi wo c (ix2 r n) = ∑ d, through (fun m => X c (ix2 r m)) (wi d) (wo d) n := by
  rw [← sum_around (fun d => through (fun m => X c (ix2 r m)) (wi d) (wo d) n) c]
  unfold all4 some3 k0_pay38 k0_pay12
  refine congrArg₂ (· + ·) (congrArg₂ (· + ·) (congrArg₂ (· + ·) ?_ (got_apply X wi wo c 2 r n)) (got_apply X wi wo c 0 r n)) (got_apply X wi wo c 1 r n)
  unfold k0_pay10
  refine (extractStridedSlice_apply _ _ _ _ (ix2 (rowIx 0 r) n) (fun a => by fin_cases a <;> simp [rowIx])).trans ?_
  refine (products_apply (gathered (F := Ideal) X c) (wi c) (wo c) 0 r n).trans ?_
  refine congrArg (fun x => through x (wi c) (wo c) n) (funext fun m => ?_)
  show X (turn c 0) _ = X c _
  rw [turn_zero]
  refine congrArg (X c) (funext fun a => ?_)
  match a with | ⟨0, _⟩ => rfl | ⟨1, _⟩ => rfl

/-- The narrowed sum is the sum. -/
theorem next_eq (c : Dev nD) : next (F := Ideal) X wi wo c = all4 (F := Ideal) X wi wo c := rfl

end Layer

end Cert.KernelIdeal.Mesh

end
-- ==== Proof.Reference.lean ====
/-
# The reference's layers, and the device's blocks of them

A layer of the reference sums over all the hidden units; cut into the four devices' units, it is what the devices sum.
-/
module

public import proofs.«01_k».proof.Proof.Value
public import proofs.«01_k».proof.Proof.Gen.ReferenceIdeal
public import Idealize.ShloMosaic.Lib.StackMember
public import Idealize.ShloMosaic.Lib.Layout

@[expose] public section

noncomputable section

namespace Cert.KernelIdeal.Mesh

open Cert.KernelIdeal Cert.KernelIdeal.Gen
open Idealize.ShloMosaic Idealize.ShloMosaic.ValueIdx Idealize.ShloMosaic.StackMember
open scoped BigOperators

/-- One layer of the reference: the product with the first weights, its positive part, the product with the second. -/
def layer (X : S256x1024.Idx → EReal) (Wi : (⟨2, ![1024, 8192]⟩ : Shape).Idx → EReal) (Wo : (⟨2, ![8192, 1024]⟩ : Shape).Idx → EReal) :
    S256x1024.Idx → EReal :=
  Host.dotGeneral (F := Ideal) (φ₁ := .f32) (φ₂ := .f32) Cert.ReferenceIdeal.dot_S256x8192_S8192x1024_S256x1024_1_0_0_1_n_n none
    (maximumf (F := Ideal) (φ := .f32)
      (Host.dotGeneral (F := Ideal) (φ₁ := .f32) (φ₂ := .f32) Cert.ReferenceIdeal.dot_S256x1024_S1024x8192_S256x8192_1_0_0_1_n_n none X Wi)
      (broadcastInDim Cert.ReferenceIdeal.S256x8192 ![] Cert.ReferenceIdeal.Facts₀.bcast_S_S256x8192
        (constant (F := Ideal) Cert.ReferenceIdeal.S_ .f32 0x00000000#32)))
    Wo

/-- A layer's row is the row through all the units. -/
theorem layer_apply (X : S256x1024.Idx → EReal) (Wi : (⟨2, ![1024, 8192]⟩ : Shape).Idx → EReal) (Wo : (⟨2, ![8192, 1024]⟩ : Shape).Idx → EReal)
    (r : Fin 256) (n : Fin 1024) : layer X Wi Wo (ix2 r n) = through (fun m => X (ix2 r m)) Wi Wo n := by
  unfold layer through hidden
  refine (dotGeneral_plain_apply (m := 256) (k := 8192) (n := 1024) none _ _ r n).trans ?_
  refine Finset.sum_congr rfl fun k _ => congrArg (· * Wo (ix2 k n)) ?_
  exact congrArg₂ max (dotGeneral_plain_apply (m := 256) (k := 1024) (n := 8192) none _ _ r k) Ideal.ofBits_zero_f32

/-- Unit `k` of device `d`. -/
def unitIx (d : Dev nD) (k : Fin 2048) : Fin 8192 := ⟨d.val * 2048 + k.val, by have := d.isLt; have : nD = 4 := rfl; omega⟩

/-- A sum over all the units is the sum over the devices' own. -/
theorem sum_units (f : Fin 8192 → EReal) : ∑ k, f k = ∑ d : Dev nD, ∑ k : Fin 2048, f (unitIx d k) := by
  rw [← Equiv.sum_comp (finProdFinEquiv (m := 4) (n := 2048)) f, Fintype.sum_prod_type]
  refine Finset.sum_congr rfl fun d _ => Finset.sum_congr rfl fun k _ => congrArg f (Fin.ext ?_)
  show k.val + 2048 * d.val = d.val * 2048 + k.val
  omega

/-- Device `c`'s blocks of the rows, and of the two weights. -/
abbrev rowsBlock (X : S256x1024.Idx → EReal) (c : Dev nD) : S64x1024.Idx → EReal := Layout.block S64x1024 S256x1024 0 4 c X
abbrev inBlock (W : (⟨2, ![1024, 8192]⟩ : Shape).Idx → EReal) (c : Dev nD) : S1024x2048.Idx → EReal := Layout.block S1024x2048 ⟨2, ![1024, 8192]⟩ 1 4 c W
abbrev outBlock (W : (⟨2, ![8192, 1024]⟩ : Shape).Idx → EReal) (c : Dev nD) : S2048x1024.Idx → EReal := Layout.block S2048x1024 ⟨2, ![8192, 1024]⟩ 0 4 c W

theorem rowsBlock_apply (X : S256x1024.Idx → EReal) (c : Dev nD) (r : Fin 64) (m : Fin 1024) : rowsBlock X c (ix2 r m) = X (ix2 (rowIx c r) m) :=
  congrArg X (funext fun a => by match a with | ⟨0, _⟩ => rfl | ⟨1, _⟩ => rfl)
theorem inBlock_apply (W : (⟨2, ![1024, 8192]⟩ : Shape).Idx → EReal) (c : Dev nD) (m : Fin 1024) (k : Fin 2048) :
    inBlock W c (ix2 m k) = W (ix2 m (unitIx c k)) :=
  congrArg W (funext fun a => by match a with | ⟨0, _⟩ => rfl | ⟨1, _⟩ => rfl)
theorem outBlock_apply (W : (⟨2, ![8192, 1024]⟩ : Shape).Idx → EReal) (c : Dev nD) (k : Fin 2048) (n : Fin 1024) :
    outBlock W c (ix2 k n) = W (ix2 (unitIx c k) n) :=
  congrArg W (funext fun a => by match a with | ⟨0, _⟩ => rfl | ⟨1, _⟩ => rfl)

/-- The devices' layer on the blocks of its operands is the block of the reference's layer. -/
theorem all4_block (X : S256x1024.Idx → EReal) (Wi : (⟨2, ![1024, 8192]⟩ : Shape).Idx → EReal) (Wo : (⟨2, ![8192, 1024]⟩ : Shape).Idx → EReal)
    (c : Dev nD) : all4 (F := Ideal) (rowsBlock X) (inBlock Wi) (outBlock Wo) c = rowsBlock (layer X Wi Wo) c := by
  funext i
  rw [eq_ix2 i]
  refine (all4_apply (rowsBlock X) (inBlock Wi) (outBlock Wo) c (i 0) (i 1)).trans ?_
  refine Eq.trans ?_ ((rowsBlock_apply (layer X Wi Wo) c (i 0) (i 1)).trans (layer_apply X Wi Wo (rowIx c (i 0)) (i 1))).symm
  unfold through hidden
  rw [sum_units]
  refine Finset.sum_congr rfl fun d _ => Finset.sum_congr rfl fun k _ => congrArg₂ (· * ·) (congrArg (max · 0) ?_) (outBlock_apply Wo d k (i 1))
  exact Finset.sum_congr rfl fun m _ => congrArg₂ (· * ·) (rowsBlock_apply X c (i 0) m) (inBlock_apply Wi d m k)

/-- The devices' result, of arguments cut into blocks, is the block of the reference's three layers. -/
theorem result_block (I : Ins Ideal) (X : S256x1024.Idx → EReal) (Wi : ℕ → (⟨2, ![1024, 8192]⟩ : Shape).Idx → EReal)
    (Wo : ℕ → (⟨2, ![8192, 1024]⟩ : Shape).Idx → EReal) (hx : ∀ c, I.x c = rowsBlock X c) (hi : ∀ l c, I.wi l c = inBlock (Wi l) c)
    (ho : ∀ l c, I.wo l c = outBlock (Wo l) c) (c : Dev nD) :
    result I c = rowsBlock (layer (layer (layer X (Wi 0) (Wo 0)) (Wi 1) (Wo 1)) (Wi 2) (Wo 2)) c := by
  have ei : ∀ l, (fun d => narrow (F := Ideal) (s := S1024x2048) (I.wi l d)) = (inBlock (Wi l) : Dev nD → S1024x2048.Idx → EReal) := fun l => funext fun d => hi l d
  have eo : ∀ l, (fun d => narrow (F := Ideal) (s := S2048x1024) (I.wo l d)) = (outBlock (Wo l) : Dev nD → S2048x1024.Idx → EReal) := fun l => funext fun d => ho l d
  have e0 : act I 0 = (rowsBlock X : Dev nD → S64x1024.Idx → EReal) := funext fun d => hx d
  have es : ∀ l (Y : S256x1024.Idx → EReal), act I l = (rowsBlock Y : Dev nD → S64x1024.Idx → EReal) →
      act I (l + 1) = (rowsBlock (layer Y (Wi l) (Wo l)) : Dev nD → S64x1024.Idx → EReal) := fun l Y h => funext fun d => by
    show next (act I l) (fun d => narrow (I.wi l d)) (fun d => narrow (I.wo l d)) d = _
    rw [h, ei, eo, next_eq]
    exact all4_block Y (Wi l) (Wo l) d
  unfold result
  rw [es 1 _ (es 0 _ e0), ei, eo]
  exact all4_block _ (Wi 2) (Wo 2) c

end Cert.KernelIdeal.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The printed kernel runs, at any float values, and leaves its arguments and its semaphores as they were. -/
theorem frame_kernelIdeal {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)
        ∧ r.2.mem (c.tc.loc Cert.KernelIdeal.main_arg5) = m (c.tc.loc Cert.KernelIdeal.main_arg5)
        ∧ r.2.mem (c.tc.loc Cert.KernelIdeal.main_arg6) = m (c.tc.loc Cert.KernelIdeal.main_arg6))
      ∧ r.2.sem = fun _ => 0 :=
  (θ_run _ _ _).mono (fun _ h => ⟨fun c => ⟨(h.1 c).2.1, (h.1 c).2.2.1⟩, h.2⟩) (Cert.KernelIdeal.Mesh.run_main m ρ)

/-- The kernel as compiled and the kernel as idealized are the same text: one table of bodies, -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, h⟩ := l
  rcases l with _ | l
  · rcases a with ⟨t, s⟩
    dsimp only
    rw [show Cert.Kernel.cc0_body (F := Bits) = Cert.KernelIdeal.cc0_body (F := Bits) from rfl]
  · exact absurd h (Nat.not_lt.2 (Nat.le_add_left _ _))

/-- one table of definitions, -/
theorem defs_same : Cert.Kernel.defs (F := Bits) = Cert.KernelIdeal.defs (F := Bits) :=
  congrArg (Pipeline.defs Cert.KernelIdeal.pcfgs) bodies_same

/-- and so the compiled kernel's run is the other's. -/
theorem frame_kernel : Cert.quiescent_Kernel := fun m ρ _ => by
  rw [defs_same]
  exact frame_kernelIdeal (F := Bits) m ρ

/-- The reference runs and leaves its arguments as they were; it has no semaphores to leave. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Every device's result is its block of rows of the reference's. -/
theorem value : Cert.algebraic_KernelIdeal_ReferenceIdeal := fun m ρ m' ρ' _ hm => by
  have hr := Cert.KernelIdeal.Mesh.result_block (Cert.KernelIdeal.Mesh.ins m) (m' ((0 : Dev Cert.ReferenceIdeal.nD).tc.loc Cert.ReferenceIdeal.main_arg0))
    (fun l => match l with
      | 0 => m' ((0 : Dev Cert.ReferenceIdeal.nD).tc.loc Cert.ReferenceIdeal.main_arg1)
      | 1 => m' ((0 : Dev Cert.ReferenceIdeal.nD).tc.loc Cert.ReferenceIdeal.main_arg2)
      | _ => m' ((0 : Dev Cert.ReferenceIdeal.nD).tc.loc Cert.ReferenceIdeal.main_arg3))
    (fun l => match l with
      | 0 => m' ((0 : Dev Cert.ReferenceIdeal.nD).tc.loc Cert.ReferenceIdeal.main_arg4)
      | 1 => m' ((0 : Dev Cert.ReferenceIdeal.nD).tc.loc Cert.ReferenceIdeal.main_arg5)
      | _ => m' ((0 : Dev Cert.ReferenceIdeal.nD).tc.loc Cert.ReferenceIdeal.main_arg6))
    (fun c => (hm c).1)
    (fun l c => match l with | 0 => (hm c).2.1 | 1 => (hm c).2.2.1 | _ + 2 => (hm c).2.2.2.1)
    (fun l c => match l with | 0 => (hm c).2.2.2.2.1 | 1 => (hm c).2.2.2.2.2.1 | _ + 2 => (hm c).2.2.2.2.2.2)
  refine ⟨_, ?_, (θ_run Cert.ReferenceIdeal.defs _ _).mono (fun _ h => h 0) (Cert.ReferenceIdeal.Value.run m' ρ')⟩
  refine (θ_run Cert.KernelIdeal.defs _ _).mono (fun _ h c => ⟨(h.1 c).1.trans (hr c), (h.1 c).2.1, (h.1 c).2.2.1⟩) (Cert.KernelIdeal.Mesh.run_main m ρ)

theorem claim : Cert.Claim := ⟨Cert.Kernel.Gen.facts, Cert.KernelIdeal.Gen.facts, Cert.ReferenceIdeal.Gen.facts,
  frame_kernel, fun m ρ _ => frame_kernelIdeal m ρ, frame_reference, trivial, value⟩

end Cert.Proof

end
